-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x24x80 : Shape := ⟨4, ![8, 1024, 24, 80]⟩
abbrev S8x3x4 : Shape := ⟨3, ![8, 3, 4]⟩
abbrev S256x1024x3x3 : Shape := ⟨4, ![256, 1024, 3, 3]⟩
abbrev S256 : Shape := ⟨1, ![256]⟩
abbrev S1x256x1x1 : Shape := ⟨4, ![1, 256, 1, 1]⟩
abbrev S1 : Shape := ⟨1, ![1]⟩
abbrev S_ : Shape := ⟨0, ![]⟩

class Facts : Prop where
  bcast_S_S8x1024x24x80 : S_.BroadcastsInDim S8x1024x24x80 (![] : Fin 0 → Fin S8x1024x24x80.rank)
  reducesTo_S8x1024x24x80_S_d0_1_2_3 : S8x1024x24x80.ReducesTo [0, 1, 2, 3] S_
  h_S_ : 0 < S_.numel
  bcast_S_S256x1024x3x3 : S_.BroadcastsInDim S256x1024x3x3 (![] : Fin 0 → Fin S256x1024x3x3.rank)
  reducesTo_S256x1024x3x3_S_d0_1_2_3 : S256x1024x3x3.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x1024x24x80 .f32) (main_arg1 : FVec F S8x3x4 .f32) (main_arg2 : FVec F S256x1024x3x3 .f32) (main_arg3 : FVec F S256 .f32) (main_arg4 : FVec F S256 .f32) (main_arg5 : FVec F S256 .f32) (main_arg6 : FVec F S1x256x1x1 .f32) (main_arg7 : FVec F S1 .f32) : IVec S_ 1 :=
  let main_v0 : FVec F S8x1024x24x80 .f32 := Host.absf main_arg0
  let main_cst : FVec F S_ .f32 := constant S_ .f32 0x7F800000#32
  let main_v1 : FVec F S8x1024x24x80 .f32 := broadcastInDim S8x1024x24x80 ![] bcast_S_S8x1024x24x80 main_cst
  let main_v2 : IVec S8x1024x24x80 1 := cmpf .olt main_v0 main_v1
  let main_c : IVec S_ 1 := constantI S_ 1 1#1
  let main_v3 : IVec S_ 1 := (fun x v => Host.reduce IntOp.andi x v reducesTo_S8x1024x24x80_S_d0_1_2_3 h_S_) main_v2 main_c
  let main_v4 : FVec F S256x1024x3x3 .f32 := Host.absf main_arg2
  let main_cst_0 : FVec F S_ .f32 := constant S_ .f32 0x7F800000#32
  let main_v5 : FVec F S256x1024x3x3 .f32 := broadcastInDim S256x1024x3x3 ![] bcast_S_S256x1024x3x3 main_cst_0
  let main_v6 : IVec S256x1024x3x3 1 := cmpf .olt main_v4 main_v5
  let main_c_1 : IVec S_ 1 := constantI S_ 1 1#1
  let main_v7 : IVec S_ 1 := (fun x v => Host.reduce IntOp.andi x v reducesTo_S256x1024x3x3_S_d0_1_2_3 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x1024x24x80 : Shape := ⟨4, ![8, 1024, 24, 80]⟩
abbrev S8x3x4 : Shape := ⟨3, ![8, 3, 4]⟩
abbrev S256x1024x3x3 : Shape := ⟨4, ![256, 1024, 3, 3]⟩
abbrev S256 : Shape := ⟨1, ![256]⟩
abbrev S1x256x1x1 : Shape := ⟨4, ![1, 256, 1, 1]⟩
abbrev S1 : Shape := ⟨1, ![1]⟩
abbrev S8x24x80x1024 : Shape := ⟨4, ![8, 24, 80, 1024]⟩
abbrev S8x1920x1024 : Shape := ⟨3, ![8, 1920, 1024]⟩
abbrev S_ : Shape := ⟨0, ![]⟩
abbrev S8x2112x1024 : Shape := ⟨3, ![8, 2112, 1024]⟩
abbrev S3x3x1024x256 : Shape := ⟨4, ![3, 3, 1024, 256]⟩
abbrev S9216x256 : Shape := ⟨2, ![9216, 256]⟩
abbrev S8x1x1 : Shape := ⟨3, ![8, 1, 1]⟩
abbrev S8 : Shape := ⟨1, ![8]⟩
abbrev S8x1 : Shape := ⟨2, ![8, 1]⟩
abbrev S8x2 : Shape := ⟨2, ![8, 2]⟩
abbrev S8x1x2 : Shape := ⟨3, ![8, 1, 2]⟩
abbrev S1x256 : Shape := ⟨2, ![1, 256]⟩
abbrev S1x1 : Shape := ⟨2, ![1, 1]⟩
abbrev S8x24x80 : Shape := ⟨3, ![8, 24, 80]⟩
abbrev S8x120x1024 : Shape := ⟨3, ![8, 120, 1024]⟩
abbrev S8x1024x26x82 : Shape := ⟨4, ![8, 1024, 26, 82]⟩
abbrev S1x8x1024x26x82 : Shape := ⟨5, ![1, 8, 1024, 26, 82]⟩
abbrev S1x8x1024x24x80 : Shape := ⟨5, ![1, 8, 1024, 24, 80]⟩
abbrev S9x8x1024x24x80 : Shape := ⟨5, ![9, 8, 1024, 24, 80]⟩
abbrev S256x1024x9 : Shape := ⟨3, ![256, 1024, 9]⟩
abbrev S256x8x24x80 : Shape := ⟨4, ![256, 8, 24, 80]⟩
abbrev S8x256x24x80 : Shape := ⟨4, ![8, 256, 24, 80]⟩
abbrev S8x32x8x24x80 : Shape := ⟨5, ![8, 32, 8, 24, 80]⟩
abbrev S8x32 : Shape := ⟨2, ![8, 32]⟩
abbrev S8x32x1x1x1 : Shape := ⟨5, ![8, 32, 1, 1, 1]⟩
abbrev S1x8x24x80 : Shape := ⟨4, ![1, 8, 24, 80]⟩
abbrev S8x1x24x80 : Shape := ⟨4, ![8, 1, 24, 80]⟩
abbrev S1x1x1x1 : Shape := ⟨4, ![1, 1, 1, 1]⟩
abbrev S24 : Shape := ⟨1, ![24]⟩
abbrev S1x24x1 : Shape := ⟨3, ![1, 24, 1]⟩
abbrev S8x6x4x20x4 : Shape := ⟨5, ![8, 6, 4, 20, 4]⟩
abbrev S8x6x20 : Shape := ⟨3, ![8, 6, 20]⟩
abbrev S8x120 : Shape := ⟨2, ![8, 120]⟩
abbrev S8x1x120 : Shape := ⟨3, ![8, 1, 120]⟩
abbrev S8x100x1024 : Shape := ⟨3, ![8, 100, 1024]⟩
abbrev S6 : Shape := ⟨1, ![6]⟩
abbrev S20 : Shape := ⟨1, ![20]⟩
abbrev S6x20 : Shape := ⟨2, ![6, 20]⟩
abbrev S6x20x1 : Shape := ⟨3, ![6, 20, 1]⟩
abbrev S6x20x2 : Shape := ⟨3, ![6, 20, 2]⟩
abbrev S120x2 : Shape := ⟨2, ![120, 2]⟩
abbrev S1x120x2 : Shape := ⟨3, ![1, 120, 2]⟩
abbrev S8x120x2 : Shape := ⟨3, ![8, 120, 2]⟩
abbrev S1x2112x1024 : Shape := ⟨3, ![1, 2112, 1024]⟩
abbrev S1x1x2 : Shape := ⟨3, ![1, 1, 2]⟩
abbrev S1x24x80 : Shape := ⟨3, ![1, 24, 80]⟩
abbrev S1x120x1024 : Shape := ⟨3, ![1, 120, 1024]⟩
abbrev S120x1024 : Shape := ⟨2, ![120, 1024]⟩
abbrev S240x1 : Shape := ⟨2, ![240, 1]⟩
abbrev S1x240x1024 : Shape := ⟨3, ![1, 240, 1024]⟩
abbrev S240x1024 : Shape := ⟨2, ![240, 1024]⟩
abbrev S240x9216 : Shape := ⟨2, ![240, 9216]⟩
abbrev S240x256 : Shape := ⟨2, ![240, 256]⟩
abbrev S120x240 : Shape := ⟨2, ![120, 240]⟩
abbrev S256x256 : Shape := ⟨2, ![256, 256]⟩
abbrev S1x1x1 : Shape := ⟨3, ![1, 1, 1]⟩
abbrev S240 : Shape := ⟨1, ![240]⟩
abbrev S1920x1 : Shape := ⟨2, ![1920, 1]⟩
abbrev S1920x80 : Shape := ⟨2, ![1920, 80]⟩
abbrev S24x1920 : Shape := ⟨2, ![24, 1920]⟩
abbrev S24x80 : Shape := ⟨2, ![24, 80]⟩
abbrev S1x1x120 : Shape := ⟨3, ![1, 1, 120]⟩
abbrev S1x100x1024 : Shape := ⟨3, ![1, 100, 1024]⟩
abbrev S1x120 : Shape := ⟨2, ![1, 120]⟩
abbrev S120x120 : Shape := ⟨2, ![120, 120]⟩
abbrev S120x1 : Shape := ⟨2, ![120, 1]⟩
abbrev S120 : Shape := ⟨1, ![120]⟩
abbrev S100x120 : Shape := ⟨2, ![100, 120]⟩
abbrev S100x1024 : Shape := ⟨2, ![100, 1024]⟩

abbrev nBuf : Space → Nat
  | .hbm => 180
  | .vmem => 20
  | .smem => 0
  | _ => 0

abbrev hbmTy0_0 (i : Nat) : BufTy := match i % 128 with
  | 0 => ⟨S8x1024x24x80, .f32⟩
  | 1 => ⟨S8x3x4, .f32⟩
  | 2 => ⟨S256x1024x3x3, .f32⟩
  | 3 => ⟨S256, .f32⟩
  | 4 => ⟨S256, .f32⟩
  | 5 => ⟨S256, .f32⟩
  | 6 => ⟨S1x256x1x1, .f32⟩
  | 7 => ⟨S1, .f32⟩
  | 8 => ⟨S8x1024x24x80, .bf16⟩
  | 9 => ⟨S8x24x80x1024, .bf16⟩
  | 10 => ⟨S8x1920x1024, .bf16⟩
  | 11 => ⟨S_, .i32⟩
  | 12 => ⟨S_, .bf16⟩
  | 13 => ⟨S8x2112x1024, .bf16⟩
  | 14 => ⟨S256x1024x3x3, .bf16⟩
  | 15 => ⟨S3x3x1024x256, .bf16⟩
  | 16 => ⟨S9216x256, .bf16⟩
  | 17 => ⟨S8x1x1, .f32⟩
  | 18 => ⟨S8, .f32⟩
  | 19 => ⟨S8x1x1, .f32⟩
  | 20 => ⟨S8, .f32⟩
  | 21 => ⟨S8x1, .f32⟩
  | 22 => ⟨S8x1, .f32⟩
  | 23 => ⟨S8x2, .f32⟩
  | 24 => ⟨S8x1x2, .f32⟩
  | 25 => ⟨S1x256, .f32⟩
  | 26 => ⟨S1x256, .f32⟩
  | 27 => ⟨S1x256, .f32⟩
  | 28 => ⟨S1x256, .f32⟩
  | 29 => ⟨S1x1, .f32⟩
  | 30 => ⟨S8x24x80, .f32⟩
  | 31 => ⟨S8x120x1024, .f32⟩
  | 32 => ⟨S_, .i32⟩
  | 33 => ⟨S_, .f32⟩
  | 34 => ⟨S8x1024x26x82, .f32⟩
  | 35 => ⟨S1x8x1024x26x82, .f32⟩
  | 36 => ⟨S1x8x1024x24x80, .f32⟩
  | 37 => ⟨S1x8x1024x24x80, .f32⟩
  | 38 => ⟨S1x8x1024x24x80, .f32⟩
  | 39 => ⟨S1x8x1024x24x80, .f32⟩
  | 40 => ⟨S1x8x1024x24x80, .f32⟩
  | 41 => ⟨S1x8x1024x24x80, .f32⟩
  | 42 => ⟨S1x8x1024x24x80, .f32⟩
  | 43 => ⟨S1x8x1024x24x80, .f32⟩
  | 44 => ⟨S1x8x1024x24x80, .f32⟩
  | 45 => ⟨S9x8x1024x24x80, .f32⟩
  | 46 => ⟨S256x1024x9, .f32⟩
  | 47 => ⟨S256x8x24x80, .f32⟩
  | 48 => ⟨S8x256x24x80, .f32⟩
  | 49 => ⟨S1x256x1x1, .f32⟩
  | 50 => ⟨S8x256x24x80, .f32⟩
  | 51 => ⟨S8x256x24x80, .f32⟩
  | 52 => ⟨S8x32x8x24x80, .f32⟩
  | 53 => ⟨S_, .f32⟩
  | 54 => ⟨S8x32, .f32⟩
  | 55 => ⟨S8x32x1x1x1, .f32⟩
  | 56 => ⟨S_, .f32⟩
  | 57 => ⟨S8x32x1x1x1, .f32⟩
  | 58 => ⟨S8x32x1x1x1, .f32⟩
  | 59 => ⟨S_, .i32⟩
  | 60 => ⟨S_, .f32⟩
  | 61 => ⟨S8x32, .f32⟩
  | 62 => ⟨S8x32x1x1x1, .f32⟩
  | 63 => ⟨S_, .f32⟩
  | 64 => ⟨S8x32x1x1x1, .f32⟩
  | 65 => ⟨S8x32x1x1x1, .f32⟩
  | 66 => ⟨S8x32x8x24x80, .f32⟩
  | 67 => ⟨S8x32x8x24x80, .f32⟩
  | 68 => ⟨S8x32x8x24x80, .f32⟩
  | 69 => ⟨S_, .f32⟩
  | 70 => ⟨S_, .f32⟩
  | 71 => ⟨S_, .f32⟩
  | 72 => ⟨S_, .f32⟩
  | 73 => ⟨S8x32, .f32⟩
  | 74 => ⟨S8x32x1x1x1, .f32⟩
  | 75 => ⟨S8x32x1x1x1, .f32⟩
  | 76 => ⟨S8x32x1x1x1, .f32⟩
  | 77 => ⟨S_, .f32⟩
  | 78 => ⟨S_, .i1⟩
  | 79 => ⟨S_, .f32⟩
  | 80 => ⟨S_, .f32⟩
  | 81 => ⟨S8x32x1x1x1, .f32⟩
  | 82 => ⟨S8x32x1x1x1, .f32⟩
  | 83 => ⟨S8x32x8x24x80, .f32⟩
  | 84 => ⟨S8x32x8x24x80, .f32⟩
  | 85 => ⟨S_, .f32⟩
  | 86 => ⟨S8x32x1x1x1, .f32⟩
  | 87 => ⟨S8x32x1x1x1, .f32⟩
  | 88 => ⟨S8x32x1x1x1, .f32⟩
  | 89 => ⟨S8x32x8x24x80, .f32⟩
  | 90 => ⟨S8x32x8x24x80, .f32⟩
  | 91 => ⟨S8x256x24x80, .f32⟩
  | 92 => ⟨S1x256x1x1, .f32⟩
  | 93 => ⟨S8x256x24x80, .f32⟩
  | 94 => ⟨S8x256x24x80, .f32⟩
  | 95 => ⟨S1x256x1x1, .f32⟩
  | 96 => ⟨S8x256x24x80, .f32⟩
  | 97 => ⟨S8x256x24x80, .f32⟩
  | 98 => ⟨S_, .f32⟩
  | 99 => ⟨S8x256x24x80, .f32⟩
  | 100 => ⟨S8x256x24x80, .f32⟩
  | 101 => ⟨S1x256, .f32⟩
  | 102 => ⟨S1x8x24x80, .f32⟩
  | 103 => ⟨S8x1x24x80, .f32⟩
  | 104 => ⟨S1x1x1x1, .f32⟩
  | 105 => ⟨S8x1x24x80, .f32⟩
  | 106 => ⟨S8x1x24x80, .f32⟩
  | 107 => ⟨S8x1x24x80, .f32⟩
  | 108 => ⟨S8x1x24x80, .f32⟩
  | 109 => ⟨S_, .f32⟩
  | 110 => ⟨S8x1x24x80, .f32⟩
  | 111 => ⟨S8x1x24x80, .f32⟩
  | 112 => ⟨S_, .f32⟩
  | 113 => ⟨S8x1x24x80, .f32⟩
  | 114 => ⟨S8x1x24x80, .f32⟩
  | 115 => ⟨S8x24x80, .f32⟩
  | 116 => ⟨S24, .f32⟩
  | 117 => ⟨S1x24x1, .f32⟩
  | 118 => ⟨S8x24x80, .f32⟩
  | 119 => ⟨S8x1x1, .f32⟩
  | 120 => ⟨S8, .f32⟩
  | 121 => ⟨S8x1x1, .f32⟩
  | 122 => ⟨S8x1x1, .f32⟩
  | 123 => ⟨S8, .f32⟩
  | 124 => ⟨S8x1x1, .f32⟩
  | 125 => ⟨S_, .f32⟩
  | 126 => ⟨S8x1x1, .f32⟩
  | 127 => ⟨S8x1x1, .f32⟩
  | _ => ⟨S8x1024x24x80, .f32⟩

abbrev hbmTy0_1 (i : Nat) : BufTy := match i % 128 with
  | 0 => ⟨S_, .f32⟩
  | 1 => ⟨S8x1x1, .f32⟩
  | 2 => ⟨S8x1x1, .f32⟩
  | 3 => ⟨S8x24x80, .f32⟩
  | 4 => ⟨S8x24x80, .f32⟩
  | 5 => ⟨S_, .f32⟩
  | 6 => ⟨S8x24x80, .f32⟩
  | 7 => ⟨S8x24x80, .f32⟩
  | 8 => ⟨S_, .f32⟩
  | 9 => ⟨S8x1x1, .f32⟩
  | 10 => ⟨S8x1x1, .f32⟩
  | 11 => ⟨S8x24x80, .f32⟩
  | 12 => ⟨S8x24x80, .f32⟩
  | 13 => ⟨S_, .f32⟩
  | 14 => ⟨S8x24x80, .f32⟩
  | 15 => ⟨S8x24x80, .f32⟩
  | 16 => ⟨S8x24x80, .f32⟩
  | 17 => ⟨S_, .f32⟩
  | 18 => ⟨S8x24x80, .f32⟩
  | 19 => ⟨S8x24x80, .f32⟩
  | 20 => ⟨S8x24x80, .f32⟩
  | 21 => ⟨S8x6x4x20x4, .f32⟩
  | 22 => ⟨S_, .f32⟩
  | 23 => ⟨S8x6x20, .f32⟩
  | 24 => ⟨S_, .f32⟩
  | 25 => ⟨S8x6x20, .f32⟩
  | 26 => ⟨S8x6x20, .f32⟩
  | 27 => ⟨S8x120, .f32⟩
  | 28 => ⟨S8x1x120, .f32⟩
  | 29 => ⟨S8x100x1024, .f32⟩
  | 30 => ⟨S6, .i32⟩
  | 31 => ⟨S_, .i32⟩
  | 32 => ⟨S6, .i32⟩
  | 33 => ⟨S6, .i32⟩
  | 34 => ⟨S_, .i32⟩
  | 35 => ⟨S6, .i32⟩
  | 36 => ⟨S6, .i32⟩
  | 37 => ⟨S20, .i32⟩
  | 38 => ⟨S_, .i32⟩
  | 39 => ⟨S20, .i32⟩
  | 40 => ⟨S20, .i32⟩
  | 41 => ⟨S_, .i32⟩
  | 42 => ⟨S20, .i32⟩
  | 43 => ⟨S20, .i32⟩
  | 44 => ⟨S6x20, .i32⟩
  | 45 => ⟨S6x20, .i32⟩
  | 46 => ⟨S6x20x1, .i32⟩
  | 47 => ⟨S6x20x1, .i32⟩
  | 48 => ⟨S6x20x2, .i32⟩
  | 49 => ⟨S120x2, .i32⟩
  | 50 => ⟨S1x120x2, .i32⟩
  | 51 => ⟨S8x120x2, .i32⟩
  | _ => ⟨S8x1024x24x80, .f32⟩

abbrev hbmTy (i : Nat) : BufTy := match i / 128 with
  | 0 => hbmTy0_0 i
  | 1 => hbmTy0_1 i
  | _ => ⟨S8x1024x24x80, .f32⟩

abbrev bufTy : (tb : Table) → Fin (tcTables nBuf tb) → BufTy
  | .hbm, ⟨i, _⟩ => hbmTy i
  | .local _ .vmem, ⟨0, _⟩ => ⟨S1x2112x1024, .bf16⟩
  | .local _ .vmem, ⟨1, _⟩ => ⟨S1x2112x1024, .bf16⟩
  | .local _ .vmem, ⟨2, _⟩ => ⟨S9216x256, .bf16⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S1x1x2, .f32⟩
  | .local _ .vmem, ⟨9, _⟩ => ⟨S1x1x2, .f32⟩
  | .local _ .vmem, ⟨10, _⟩ => ⟨S1x24x80, .f32⟩
  | .local _ .vmem, ⟨11, _⟩ => ⟨S1x24x80, .f32⟩
  | .local _ .vmem, ⟨12, _⟩ => ⟨S1x120x1024, .f32⟩
  | .local _ .vmem, ⟨13, _⟩ => ⟨S1x120x1024, .f32⟩
  | .local _ .vmem, ⟨14, _⟩ => ⟨S1x1x120, .f32⟩
  | .local _ .vmem, ⟨15, _⟩ => ⟨S1x1x120, .f32⟩
  | .local _ .vmem, ⟨16, _⟩ => ⟨S1x120x1024, .f32⟩
  | .local _ .vmem, ⟨17, _⟩ => ⟨S1x120x1024, .f32⟩
  | .local _ .vmem, ⟨18, _⟩ => ⟨S1x100x1024, .f32⟩
  | .local _ .vmem, ⟨19, _⟩ => ⟨S1x100x1024, .f32⟩
  | _, _ => ⟨S8x1024x24x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_c : Ref sig .tc := ⟨.hbm, 11, rfl⟩
abbrev main_call0_call0_v0 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_v0_0 : Ref sig .tc := ⟨.hbm, 30, rfl⟩
abbrev main_v0_2 : Ref sig .tc := ⟨.hbm, 31, rfl⟩
abbrev main_call0_c_0 : Ref sig .tc := ⟨.hbm, 32, rfl⟩
abbrev main_call0_call1_v0 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_cst : Ref sig .tc := ⟨.hbm, 53, rfl⟩
abbrev main_call0_v40 : Ref sig .tc := ⟨.hbm, 54, rfl⟩
abbrev main_call0_v41 : Ref sig .tc := ⟨.hbm, 55, rfl⟩
abbrev main_call0_cst_1 : Ref sig .tc := ⟨.hbm, 56, rfl⟩
abbrev main_call0_v42 : Ref sig .tc := ⟨.hbm, 57, rfl⟩
abbrev main_call0_v43 : Ref sig .tc := ⟨.hbm, 58, rfl⟩
abbrev main_call0_c_2 : Ref sig .tc := ⟨.hbm, 59, rfl⟩
abbrev main_call0_call2_cst : Ref sig .tc := ⟨.hbm, 60, rfl⟩
abbrev main_call0_call2_v0 : Ref sig .tc := ⟨.hbm, 61, rfl⟩
abbrev main_call0_call2_v1 : Ref sig .tc := ⟨.hbm, 62, rfl⟩
abbrev main_call0_call2_cst_0 : Ref sig .tc := ⟨.hbm, 63, rfl⟩
abbrev main_call0_call2_v2 : Ref sig .tc := ⟨.hbm, 64, rfl⟩
abbrev main_call0_call2_v3 : Ref sig .tc := ⟨.hbm, 65, rfl⟩
abbrev main_call0_call2_v4 : Ref sig .tc := ⟨.hbm, 66, rfl⟩
abbrev main_call0_call2_v5 : Ref sig .tc := ⟨.hbm, 67, rfl⟩
abbrev main_call0_call2_v6 : Ref sig .tc := ⟨.hbm, 68, rfl⟩
abbrev main_call0_call2_v7 : Ref sig .tc := ⟨.hbm, 69, rfl⟩
abbrev main_call0_call2_cst_1 : Ref sig .tc := ⟨.hbm, 70, rfl⟩
abbrev main_call0_call2_v8 : Ref sig .tc := ⟨.hbm, 71, rfl⟩
abbrev main_call0_call2_cst_2 : Ref sig .tc := ⟨.hbm, 72, rfl⟩
abbrev main_call0_call2_v9 : Ref sig .tc := ⟨.hbm, 73, rfl⟩
abbrev main_call0_call2_v10 : Ref sig .tc := ⟨.hbm, 74, rfl⟩
abbrev main_call0_call2_v11 : Ref sig .tc := ⟨.hbm, 75, rfl⟩
abbrev main_call0_call2_v12 : Ref sig .tc := ⟨.hbm, 76, rfl⟩
abbrev main_call0_call2_cst_3 : Ref sig .tc := ⟨.hbm, 77, rfl⟩
abbrev main_call0_call2_v13 : Ref sig .tc := ⟨.hbm, 78, rfl⟩
abbrev main_call0_call2_cst_4 : Ref sig .tc := ⟨.hbm, 79, rfl⟩
abbrev main_call0_call2_call0_v0 : Ref sig .tc := ⟨.hbm, 80, rfl⟩
abbrev main_call0_call2_call0_v1 : Ref sig .tc := ⟨.hbm, 81, rfl⟩
abbrev main_call0_v44 : Ref sig .tc := ⟨.hbm, 82, rfl⟩
abbrev main_call0_v45 : Ref sig .tc := ⟨.hbm, 83, rfl⟩
abbrev main_call0_v46 : Ref sig .tc := ⟨.hbm, 84, rfl⟩
abbrev main_call0_cst_3 : Ref sig .tc := ⟨.hbm, 85, rfl⟩
abbrev main_call0_v47 : Ref sig .tc := ⟨.hbm, 86, rfl⟩
abbrev main_call0_v48 : Ref sig .tc := ⟨.hbm, 87, rfl⟩
abbrev main_call0_v49 : Ref sig .tc := ⟨.hbm, 88, rfl⟩
abbrev main_call0_v50 : Ref sig .tc := ⟨.hbm, 89, rfl⟩
abbrev main_call0_v51 : Ref sig .tc := ⟨.hbm, 90, rfl⟩
abbrev main_call0_v52 : Ref sig .tc := ⟨.hbm, 91, rfl⟩
abbrev main_call0_v53 : Ref sig .tc := ⟨.hbm, 92, rfl⟩
abbrev main_call0_v54 : Ref sig .tc := ⟨.hbm, 93, rfl⟩
abbrev main_call0_v55 : Ref sig .tc := ⟨.hbm, 94, rfl⟩
abbrev main_call0_v56 : Ref sig .tc := ⟨.hbm, 95, rfl⟩
abbrev main_call0_v57 : Ref sig .tc := ⟨.hbm, 96, rfl⟩
abbrev main_call0_v58 : Ref sig .tc := ⟨.hbm, 97, rfl⟩
abbrev main_call0_call3_cst : Ref sig .tc := ⟨.hbm, 98, rfl⟩
abbrev main_call0_call3_v0 : Ref sig .tc := ⟨.hbm, 99, rfl⟩
abbrev main_call0_v59 : Ref sig .tc := ⟨.hbm, 100, rfl⟩
abbrev main_call0_v60 : Ref sig .tc := ⟨.hbm, 101, rfl⟩
abbrev main_call0_v61 : Ref sig .tc := ⟨.hbm, 102, rfl⟩
abbrev main_call0_v62 : Ref sig .tc := ⟨.hbm, 103, rfl⟩
abbrev main_call0_v63 : Ref sig .tc := ⟨.hbm, 104, rfl⟩
abbrev main_call0_v64 : Ref sig .tc := ⟨.hbm, 105, rfl⟩
abbrev main_call0_v65 : Ref sig .tc := ⟨.hbm, 106, rfl⟩
abbrev main_call0_v66 : Ref sig .tc := ⟨.hbm, 107, rfl⟩
abbrev main_call0_v67 : Ref sig .tc := ⟨.hbm, 108, rfl⟩
abbrev main_call0_cst_4 : Ref sig .tc := ⟨.hbm, 109, rfl⟩
abbrev main_call0_v68 : Ref sig .tc := ⟨.hbm, 110, rfl⟩
abbrev main_call0_v69 : Ref sig .tc := ⟨.hbm, 111, rfl⟩
abbrev main_call0_cst_5 : Ref sig .tc := ⟨.hbm, 112, rfl⟩
abbrev main_call0_v70 : Ref sig .tc := ⟨.hbm, 113, rfl⟩
abbrev main_call0_v71 : Ref sig .tc := ⟨.hbm, 114, rfl⟩
abbrev main_call0_v72 : Ref sig .tc := ⟨.hbm, 115, rfl⟩
abbrev main_call0_v73 : Ref sig .tc := ⟨.hbm, 116, rfl⟩
abbrev main_call0_v74 : Ref sig .tc := ⟨.hbm, 117, rfl⟩
abbrev main_call0_v75 : Ref sig .tc := ⟨.hbm, 118, rfl⟩
abbrev main_call0_v76 : Ref sig .tc := ⟨.hbm, 119, rfl⟩
abbrev main_call0_v77 : Ref sig .tc := ⟨.hbm, 120, rfl⟩
abbrev main_call0_v78 : Ref sig .tc := ⟨.hbm, 121, rfl⟩
abbrev main_call0_v79 : Ref sig .tc := ⟨.hbm, 122, rfl⟩
abbrev main_call0_v80 : Ref sig .tc := ⟨.hbm, 123, rfl⟩
abbrev main_call0_v81 : Ref sig .tc := ⟨.hbm, 124, rfl⟩
abbrev main_call0_cst_6 : Ref sig .tc := ⟨.hbm, 125, rfl⟩
abbrev main_call0_v82 : Ref sig .tc := ⟨.hbm, 126, rfl⟩
abbrev main_call0_v83 : Ref sig .tc := ⟨.hbm, 127, rfl⟩
abbrev main_call0_cst_7 : Ref sig .tc := ⟨.hbm, 128, rfl⟩
abbrev main_call0_v84 : Ref sig .tc := ⟨.hbm, 129, rfl⟩
abbrev main_call0_v85 : Ref sig .tc := ⟨.hbm, 130, rfl⟩
abbrev main_call0_v86 : Ref sig .tc := ⟨.hbm, 131, rfl⟩
abbrev main_call0_v87 : Ref sig .tc := ⟨.hbm, 132, rfl⟩
abbrev main_call0_cst_8 : Ref sig .tc := ⟨.hbm, 133, rfl⟩
abbrev main_call0_v88 : Ref sig .tc := ⟨.hbm, 134, rfl⟩
abbrev main_call0_v89 : Ref sig .tc := ⟨.hbm, 135, rfl⟩
abbrev main_call0_cst_9 : Ref sig .tc := ⟨.hbm, 136, rfl⟩
abbrev main_call0_v90 : Ref sig .tc := ⟨.hbm, 137, rfl⟩
abbrev main_call0_v91 : Ref sig .tc := ⟨.hbm, 138, rfl⟩
abbrev main_call0_v92 : Ref sig .tc := ⟨.hbm, 139, rfl⟩
abbrev main_call0_v93 : Ref sig .tc := ⟨.hbm, 140, rfl⟩
abbrev main_call0_call4_cst : Ref sig .tc := ⟨.hbm, 141, rfl⟩
abbrev main_call0_call4_v0 : Ref sig .tc := ⟨.hbm, 142, rfl⟩
abbrev main_call0_v94 : Ref sig .tc := ⟨.hbm, 143, rfl⟩
abbrev main_call0_v95 : Ref sig .tc := ⟨.hbm, 144, rfl⟩
abbrev main_call0_cst_10 : Ref sig .tc := ⟨.hbm, 145, rfl⟩
abbrev main_call0_v96 : Ref sig .tc := ⟨.hbm, 146, rfl⟩
abbrev main_call0_v97 : Ref sig .tc := ⟨.hbm, 147, rfl⟩
abbrev main_call0_v98 : Ref sig .tc := ⟨.hbm, 148, rfl⟩
abbrev main_call0_v99 : Ref sig .tc := ⟨.hbm, 149, rfl⟩
abbrev main_call0_cst_11 : Ref sig .tc := ⟨.hbm, 150, rfl⟩
abbrev main_call0_v100 : Ref sig .tc := ⟨.hbm, 151, rfl⟩
abbrev main_call0_cst_12 : Ref sig .tc := ⟨.hbm, 152, rfl⟩
abbrev main_call0_v101 : Ref sig .tc := ⟨.hbm, 153, rfl⟩
abbrev main_call0_v102 : Ref sig .tc := ⟨.hbm, 154, rfl⟩
abbrev main_call0_v103 : Ref sig .tc := ⟨.hbm, 155, rfl⟩
abbrev main_call0_v104 : Ref sig .tc := ⟨.hbm, 156, rfl⟩
abbrev main_v0_1 : Ref sig .tc := ⟨.hbm, 157, rfl⟩
abbrev main_call0_v106 : Ref sig .tc := ⟨.hbm, 158, rfl⟩
abbrev main_call0_c_13 : Ref sig .tc := ⟨.hbm, 159, rfl⟩
abbrev main_call0_v107 : Ref sig .tc := ⟨.hbm, 160, rfl⟩
abbrev main_call0_v108 : Ref sig .tc := ⟨.hbm, 161, rfl⟩
abbrev main_call0_c_14 : Ref sig .tc := ⟨.hbm, 162, rfl⟩
abbrev main_call0_v109 : Ref sig .tc := ⟨.hbm, 163, rfl⟩
abbrev main_call0_v110 : Ref sig .tc := ⟨.hbm, 164, rfl⟩
abbrev main_call0_v111 : Ref sig .tc := ⟨.hbm, 165, rfl⟩
abbrev main_call0_c_15 : Ref sig .tc := ⟨.hbm, 166, rfl⟩
abbrev main_call0_v112 : Ref sig .tc := ⟨.hbm, 167, rfl⟩
abbrev main_call0_v113 : Ref sig .tc := ⟨.hbm, 168, rfl⟩
abbrev main_call0_c_16 : Ref sig .tc := ⟨.hbm, 169, rfl⟩
abbrev main_call0_v114 : Ref sig .tc := ⟨.hbm, 170, rfl⟩
abbrev main_call0_v115 : Ref sig .tc := ⟨.hbm, 171, rfl⟩
abbrev main_call0_v116 : Ref sig .tc := ⟨.hbm, 172, rfl⟩
abbrev main_call0_v117 : Ref sig .tc := ⟨.hbm, 173, rfl⟩
abbrev main_call0_v118 : Ref sig .tc := ⟨.hbm, 174, rfl⟩
abbrev main_call0_v119 : Ref sig .tc := ⟨.hbm, 175, rfl⟩
abbrev main_call0_v120 : Ref sig .tc := ⟨.hbm, 176, rfl⟩
abbrev main_call0_v121 : Ref sig .tc := ⟨.hbm, 177, rfl⟩
abbrev main_call0_v122 : Ref sig .tc := ⟨.hbm, 178, rfl⟩
abbrev main_v0_3 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9216x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x24x80 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x120x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x120x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x100x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S8x1024x24x80 : Shape := ⟨4, ![8, 1024, 24, 80]⟩
abbrev S8x3x4 : Shape := ⟨3, ![8, 3, 4]⟩
abbrev S256x1024x3x3 : Shape := ⟨4, ![256, 1024, 3, 3]⟩
abbrev S256 : Shape := ⟨1, ![256]⟩
abbrev S1x256x1x1 : Shape := ⟨4, ![1, 256, 1, 1]⟩
abbrev S1 : Shape := ⟨1, ![1]⟩
abbrev S8x24x80 : Shape := ⟨3, ![8, 24, 80]⟩
abbrev S8x1x1 : Shape := ⟨3, ![8, 1, 1]⟩
abbrev S_ : Shape := ⟨0, ![]⟩
abbrev S8x1024x26x82 : Shape := ⟨4, ![8, 1024, 26, 82]⟩
abbrev S1x8x1024x26x82 : Shape := ⟨5, ![1, 8, 1024, 26, 82]⟩
abbrev S1x8x1024x24x80 : Shape := ⟨5, ![1, 8, 1024, 24, 80]⟩
abbrev S9x8x1024x24x80 : Shape := ⟨5, ![9, 8, 1024, 24, 80]⟩
abbrev S256x1024x9 : Shape := ⟨3, ![256, 1024, 9]⟩
abbrev S256x8x24x80 : Shape := ⟨4, ![256, 8, 24, 80]⟩
abbrev S8x256x24x80 : Shape := ⟨4, ![8, 256, 24, 80]⟩
abbrev S8x32x8x24x80 : Shape := ⟨5, ![8, 32, 8, 24, 80]⟩
abbrev S8x32 : Shape := ⟨2, ![8, 32]⟩
abbrev S8x32x1x1x1 : Shape := ⟨5, ![8, 32, 1, 1, 1]⟩
abbrev S1x256 : Shape := ⟨2, ![1, 256]⟩
abbrev S1x8x24x80 : Shape := ⟨4, ![1, 8, 24, 80]⟩
abbrev S8x1x24x80 : Shape := ⟨4, ![8, 1, 24, 80]⟩
abbrev S1x1x1x1 : Shape := ⟨4, ![1, 1, 1, 1]⟩
abbrev S8x6x4x20x4 : Shape := ⟨5, ![8, 6, 4, 20, 4]⟩
abbrev S8x6x20 : Shape := ⟨3, ![8, 6, 20]⟩
abbrev S8x120 : Shape := ⟨2, ![8, 120]⟩
abbrev S8x1024x6x4x20x4 : Shape := ⟨6, ![8, 1024, 6, 4, 20, 4]⟩
abbrev S8x1024x6x20 : Shape := ⟨4, ![8, 1024, 6, 20]⟩
abbrev S8x1024x120 : Shape := ⟨3, ![8, 1024, 120]⟩
abbrev S8x120x1024 : Shape := ⟨3, ![8, 120, 1024]⟩
abbrev S8x6x20x1 : Shape := ⟨4, ![8, 6, 20, 1]⟩
abbrev S8x6x20x2 : Shape := ⟨4, ![8, 6, 20, 2]⟩
abbrev S8x120x2 : Shape := ⟨3, ![8, 120, 2]⟩
abbrev S8x100 : Shape := ⟨2, ![8, 100]⟩
abbrev S8x100x1 : Shape := ⟨3, ![8, 100, 1]⟩
abbrev S8x100x1024 : Shape := ⟨3, ![8, 100, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8x1024x24x80, .f32⟩
  | .hbm, ⟨1, _⟩ => ⟨S8x3x4, .f32⟩
  | .hbm, ⟨2, _⟩ => ⟨S256x1024x3x3, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x256x1x1, .f32⟩
  | .hbm, ⟨7, _⟩ => ⟨S1, .f32⟩
  | .hbm, ⟨8, _⟩ => ⟨S8x24x80, .f32⟩
  | .hbm, ⟨9, _⟩ => ⟨S8x1x1, .f32⟩
  | .hbm, ⟨10, _⟩ => ⟨S8x1x1, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S_, .f32⟩
  | .hbm, ⟨15, _⟩ => ⟨S8x1x1, .f32⟩
  | .hbm, ⟨16, _⟩ => ⟨S8x1x1, .f32⟩
  | .hbm, ⟨17, _⟩ => ⟨S8x24x80, .f32⟩
  | .hbm, ⟨18, _⟩ => ⟨S8x24x80, .f32⟩
  | .hbm, ⟨19, _⟩ => ⟨S_, .f32⟩
  | .hbm, ⟨20, _⟩ => ⟨S8x24x80, .f32⟩
  | .hbm, ⟨21, _⟩ => ⟨S8x24x80, .f32⟩
  | .hbm, ⟨22, _⟩ => ⟨S_, .f32⟩
  | .hbm, ⟨23, _⟩ => ⟨S8x1x1, .f32⟩
  | .hbm, ⟨24, _⟩ => ⟨S8x1x1, .f32⟩
  | .hbm, ⟨25, _⟩ => ⟨S8x24x80, .f32⟩
  | .hbm, ⟨26, _⟩ => ⟨S8x24x80, .f32⟩
  | .hbm, ⟨27, _⟩ => ⟨S_, .f32⟩
  | .hbm, ⟨28, _⟩ => ⟨S8x24x80, .f32⟩
  | .hbm, ⟨29, _⟩ => ⟨S8x24x80, .f32⟩
  | .hbm, ⟨30, _⟩ => ⟨S8x24x80, .f32⟩
  | .hbm, ⟨31, _⟩ => ⟨S_, .i32⟩
  | .hbm, ⟨32, _⟩ => ⟨S_, .f32⟩
  | .hbm, ⟨33, _⟩ => ⟨S8x1024x26x82, .f32⟩
  | .hbm, ⟨34, _⟩ => ⟨S1x8x1024x26x82, .f32⟩
  | .hbm, ⟨35, _⟩ => ⟨S1x8x1024x24x80, .f32⟩
  | .hbm, ⟨36, _⟩ => ⟨S1x8x1024x24x80, .f32⟩
  | .hbm, ⟨37, _⟩ => ⟨S1x8x1024x24x80, .f32⟩
  | .hbm, ⟨38, _⟩ => ⟨S1x8x1024x24x80, .f32⟩
  | .hbm, ⟨39, _⟩ => ⟨S1x8x1024x24x80, .f32⟩
  | .hbm, ⟨40, _⟩ => ⟨S1x8x1024x24x80, .f32⟩
  | .hbm, ⟨41, _⟩ => ⟨S1x8x1024x24x80, .f32⟩
  | .hbm, ⟨42, _⟩ => ⟨S1x8x1024x24x80, .f32⟩
  | .hbm, ⟨43, _⟩ => ⟨S1x8x1024x24x80, .f32⟩
  | .hbm, ⟨44, _⟩ => ⟨S9x8x1024x24x80, .f32⟩
  | .hbm, ⟨45, _⟩ => ⟨S256x1024x9, .f32⟩
  | .hbm, ⟨46, _⟩ => ⟨S256x8x24x80, .f32⟩
  | .hbm, ⟨47, _⟩ => ⟨S8x256x24x80, .f32⟩
  | .hbm, ⟨48, _⟩ => ⟨S1x256x1x1, .f32⟩
  | .hbm, ⟨49, _⟩ => ⟨S8x256x24x80, .f32⟩
  | .hbm, ⟨50, _⟩ => ⟨S8x256x24x80, .f32⟩
  | .hbm, ⟨51, _⟩ => ⟨S8x32x8x24x80, .f32⟩
  | .hbm, ⟨52, _⟩ => ⟨S_, .f32⟩
  | .hbm, ⟨53, _⟩ => ⟨S8x32, .f32⟩
  | .hbm, ⟨54, _⟩ => ⟨S8x32x1x1x1, .f32⟩
  | .hbm, ⟨55, _⟩ => ⟨S_, .f32⟩
  | .hbm, ⟨56, _⟩ => ⟨S8x32x1x1x1, .f32⟩
  | .hbm, ⟨57, _⟩ => ⟨S8x32x1x1x1, .f32⟩
  | .hbm, ⟨58, _⟩ => ⟨S8x32x8x24x80, .f32⟩
  | .hbm, ⟨59, _⟩ => ⟨S8x32x8x24x80, .f32⟩
  | .hbm, ⟨60, _⟩ => ⟨S8x32x8x24x80, .f32⟩
  | .hbm, ⟨61, _⟩ => ⟨S_, .f32⟩
  | .hbm, ⟨62, _⟩ => ⟨S8x32, .f32⟩
  | .hbm, ⟨63, _⟩ => ⟨S8x32x1x1x1, .f32⟩
  | .hbm, ⟨64, _⟩ => ⟨S_, .f32⟩
  | .hbm, ⟨65, _⟩ => ⟨S8x32x1x1x1, .f32⟩
  | .hbm, ⟨66, _⟩ => ⟨S8x32x1x1x1, .f32⟩
  | .hbm, ⟨67, _⟩ => ⟨S_, .f32⟩
  | .hbm, ⟨68, _⟩ => ⟨S8x32x1x1x1, .f32⟩
  | .hbm, ⟨69, _⟩ => ⟨S8x32x1x1x1, .f32⟩
  | .hbm, ⟨70, _⟩ => ⟨S8x32x1x1x1, .f32⟩
  | .hbm, ⟨71, _⟩ => ⟨S8x32x8x24x80, .f32⟩
  | .hbm, ⟨72, _⟩ => ⟨S8x32x8x24x80, .f32⟩
  | .hbm, ⟨73, _⟩ => ⟨S8x256x24x80, .f32⟩
  | .hbm, ⟨74, _⟩ => ⟨S1x256x1x1, .f32⟩
  | .hbm, ⟨75, _⟩ => ⟨S8x256x24x80, .f32⟩
  | .hbm, ⟨76, _⟩ => ⟨S8x256x24x80, .f32⟩
  | .hbm, ⟨77, _⟩ => ⟨S1x256x1x1, .f32⟩
  | .hbm, ⟨78, _⟩ => ⟨S8x256x24x80, .f32⟩
  | .hbm, ⟨79, _⟩ => ⟨S8x256x24x80, .f32⟩
  | .hbm, ⟨80, _⟩ => ⟨S_, .f32⟩
  | .hbm, ⟨81, _⟩ => ⟨S8x256x24x80, .f32⟩
  | .hbm, ⟨82, _⟩ => ⟨S8x256x24x80, .f32⟩
  | .hbm, ⟨83, _⟩ => ⟨S1x256, .f32⟩
  | .hbm, ⟨84, _⟩ => ⟨S1x8x24x80, .f32⟩
  | .hbm, ⟨85, _⟩ => ⟨S8x1x24x80, .f32⟩
  | .hbm, ⟨86, _⟩ => ⟨S1x1x1x1, .f32⟩
  | .hbm, ⟨87, _⟩ => ⟨S8x1x24x80, .f32⟩
  | .hbm, ⟨88, _⟩ => ⟨S8x1x24x80, .f32⟩
  | .hbm, ⟨89, _⟩ => ⟨S8x1x24x80, .f32⟩
  | .hbm, ⟨90, _⟩ => ⟨S8x1x24x80, .f32⟩
  | .hbm, ⟨91, _⟩ => ⟨S_, .f32⟩
  | .hbm, ⟨92, _⟩ => ⟨S8x1x24x80, .f32⟩
  | .hbm, ⟨93, _⟩ => ⟨S8x1x24x80, .f32⟩
  | .hbm, ⟨94, _⟩ => ⟨S_, .f32⟩
  | .hbm, ⟨95, _⟩ => ⟨S8x1x24x80, .f32⟩
  | .hbm, ⟨96, _⟩ => ⟨S8x1x24x80, .f32⟩
  | .hbm, ⟨97, _⟩ => ⟨S8x24x80, .f32⟩
  | .hbm, ⟨98, _⟩ => ⟨S8x24x80, .f32⟩
  | .hbm, ⟨99, _⟩ => ⟨S8x6x4x20x4, .f32⟩
  | .hbm, ⟨100, _⟩ => ⟨S_, .f32⟩
  | .hbm, ⟨101, _⟩ => ⟨S8x6x20, .f32⟩
  | .hbm, ⟨102, _⟩ => ⟨S_, .f32⟩
  | .hbm, ⟨103, _⟩ => ⟨S8x6x20, .f32⟩
  | .hbm, ⟨104, _⟩ => ⟨S8x6x20, .f32⟩
  | .hbm, ⟨105, _⟩ => ⟨S8x120, .f32⟩
  | .hbm, ⟨106, _⟩ => ⟨S8x1024x6x4x20x4, .f32⟩
  | .hbm, ⟨107, _⟩ => ⟨S_, .f32⟩
  | .hbm, ⟨108, _⟩ => ⟨S8x1024x6x20, .f32⟩
  | .hbm, ⟨109, _⟩ => ⟨S_, .f32⟩
  | .hbm, ⟨110, _⟩ => ⟨S8x1024x6x20, .f32⟩
  | .hbm, ⟨111, _⟩ => ⟨S8x1024x6x20, .f32⟩
  | .hbm, ⟨112, _⟩ => ⟨S8x1024x120, .f32⟩
  | .hbm, ⟨113, _⟩ => ⟨S8x120x1024, .f32⟩
  | .hbm, ⟨114, _⟩ => ⟨S8x6x20x1, .i32⟩
  | .hbm, ⟨115, _⟩ => ⟨S8x6x20x1, .i32⟩
  | .hbm, ⟨116, _⟩ => ⟨S8x6x20x2, .i32⟩
  | .hbm, ⟨117, _⟩ => ⟨S_, .i32⟩
  | .hbm, ⟨118, _⟩ => ⟨S8x6x20x2, .i32⟩
  | .hbm, ⟨119, _⟩ => ⟨S8x6x20x2, .i32⟩
  | .hbm, ⟨120, _⟩ => ⟨S_, .i32⟩
  | .hbm, ⟨121, _⟩ => ⟨S8x6x20x2, .i32⟩
  | .hbm, ⟨122, _⟩ => ⟨S8x6x20x2, .i32⟩
  | .hbm, ⟨123, _⟩ => ⟨S8x120x2, .i32⟩
  | .hbm, ⟨124, _⟩ => ⟨S8x100, .f32⟩
  | .hbm, ⟨125, _⟩ => ⟨S8x100, .i32⟩
  | .hbm, ⟨126, _⟩ => ⟨S8x100x1, .i32⟩
  | .hbm, ⟨127, _⟩ => ⟨S8x100x1024, .f32⟩
  | _, _ => ⟨S8x1024x24x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call2_cst : Ref sig .tc := ⟨.hbm, 80, rfl⟩
abbrev main_call2_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_v69 : Ref sig .tc := ⟨.hbm, 93, rfl⟩
abbrev main_cst_9 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_cst_11 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_14 : Ref sig .tc := ⟨.hbm, 117, rfl⟩
abbrev main_v88 : Ref sig .tc := ⟨.hbm, 118, rfl⟩
abbrev main_v89 : Ref sig .tc := ⟨.hbm, 119, rfl⟩
abbrev main_c_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_values : Ref sig .tc := ⟨.hbm, 124, rfl⟩
abbrev main_indices : Ref sig .tc := ⟨.hbm, 125, rfl⟩
abbrev main_call3_v0 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Proof.Frames.lean ====
/-
  The frames of the three programs: each runs, leaves its arguments as they were, and ends with every semaphore
  counter at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

namespace Cert.Frames

open Idealize.ShloMosaic Idealize.SL.Sem

/-- The kernel as printed leaves its arguments unchanged and its counters at zero. -/
theorem kernel : Cert.quiescent_Kernel (hKernel := Cert.Kernel.Gen.facts) :=
  fun m ρ _ => Cert.Kernel.Gen.frame m ρ

/-- So does the kernel over the extended reals. -/
theorem kernelIdeal : Cert.quiescent_KernelIdeal (hKernelIdeal := Cert.KernelIdeal.Gen.facts) :=
  fun m ρ _ => Cert.KernelIdeal.Gen.frame m ρ

/-- So does the reference: its run leaves each argument unchanged, and it declares no semaphore. -/
theorem referenceIdeal : Cert.quiescent_ReferenceIdeal (hReferenceIdeal := Cert.ReferenceIdeal.Gen.facts) :=
  fun m ρ _ => (θ_run Cert.ReferenceIdeal.defs _ _).mono
    (fun r h => ⟨fun c => (h c).2.2.2.2, sem_eq_zero_of_no_sems (by decide) r.2⟩)
    (Cert.ReferenceIdeal.Value.run (F := Ideal) m ρ)

section Finite
variable (h : Cert.Pre_finite.Facts)

/-- The same of the kernel over the extended reals at finite arguments. -/
theorem kernelIdeal_finite :
    Cert.quiescent_KernelIdeal_pre_finite (hKernelIdeal := Cert.KernelIdeal.Gen.facts) (hPre_finite := h) :=
  fun m ρ _ => kernelIdeal m ρ trivial

/-- The same of the reference at finite arguments. -/
theorem referenceIdeal_finite :
    Cert.quiescent_ReferenceIdeal_pre_finite (hReferenceIdeal := Cert.ReferenceIdeal.Gen.facts) (hPre_finite := h) :=
  fun m ρ _ => referenceIdeal m ρ trivial

end Finite

end Cert.Frames

end
-- ==== Proof.Sel.lean ====
/- The selection kernel of the launch: the row it keeps for the `k`-th centre is the token at the `k`-th position of the
   stable sort of the scores, greatest first. First the ordering facts, then the body's value. -/
module

public import proofs.«01_k».proof.Proof.Gen.KernelIdeal.Skeleton
public import Idealize.ShloMosaic.Lib.Pointwise
public import Idealize.ShloMosaic.Lib.SortPrefix
public import Idealize.ShloMosaic.Lib.SortFacts

@[expose] public section

set_option maxRecDepth 16384

noncomputable section

namespace Cert.KSel

open Idealize.ShloMosaic
open Cert.KernelIdeal Cert.KernelIdeal.Gen

open Classical in
/-- Position `i` stands before position `j`: a greater score, or an equal one at a lower position. -/
def before {n : ℕ} (x : Fin n → EReal) (i j : Fin n) : Bool :=
  decide (x j < x i) || (decide (x i = x j) && decide (i < j))

/-- The comparison of scores alone, as the host's top-k makes it. -/
def byKey {n : ℕ} (x : Fin n → EReal) (i j : Fin n) : Bool :=
  (FloatOps.cmpfTotal (F := Ideal) (φ := .f32) .gt (x i) (x j)) == 1#1

open Classical in
/-- The comparison of scores alone is the order of the extended reals. -/
theorem byKey_eq {n : ℕ} (x : Fin n → EReal) (i j : Fin n) : byKey x i j = decide (x j < x i) := by
  unfold byKey
  rw [Ideal.cmpfTotal_def]
  by_cases h : x j < x i <;> simp [Ideal.cmp, CmpDirection.ordered, h]

open Classical in
/-- `before` is a strict total order. -/
theorem before_strict {n : ℕ} (x : Fin n → EReal) : StrictTotalBefore (before x) := by
  have h := StrictTotalBefore.of_key_then_position (n := n) (fun a b : EReal => decide (b < a)) x
    (by simp) (by intro a b c; simpa using fun h1 h2 => lt_trans h2 h1)
    (by
      intro a b
      rcases lt_trichotomy a b with h | h | h
      · exact Or.inr (Or.inr (by simpa using h))
      · exact Or.inr (Or.inl h)
      · exact Or.inl (by simpa using h))
  have e : before x = fun k k' : Fin n => (fun a b : EReal => decide (b < a)) (x k) (x k')
      || (decide (x k = x k') && decide (k < k')) := by
    funext a b; unfold before; congr
  rw [e]; convert h

/-- Sorting a list in position order by the scores alone or by scores and then positions gives one list: an
    insertion passes exactly the entries of greater score, which all lie at later positions. -/
theorem stableSort_eq {n : ℕ} (x : Fin n → EReal) (l : List (Fin n)) (hl : l.Pairwise (· < ·)) :
    stableSort (byKey x) l = stableSort (before x) l := by
  induction l with
  | nil => rfl
  | cons a l ih =>
    rw [List.pairwise_cons] at hl
    unfold stableSort
    rw [ih hl.2]
    refine insertBefore_congr _ _ a _ fun b hb => ?_
    have hb' : b ∈ l := (perm_stableSort (before x) l).mem_iff.mp hb
    have hab := hl.1 b hb'
    rw [byKey_eq]; unfold before
    simp [not_lt.mpr hab.le]

/-- A stable sort by the scores alone sorts by `before`. -/
theorem sortedFrom_eq {n : ℕ} (x : Fin n → EReal) (k : Fin n) :
    sortedFrom (byKey x) k = sortedFrom (before x) k := by
  have h : sortPositions n (byKey x) = sortPositions n (before x) := stableSort_eq x _ (List.pairwise_lt_finRange n)
  unfold sortedFrom
  simp only [List.get_eq_getElem, h, Fin.val_cast]

/-- How many positions stand before `j`. -/
def rank {n : ℕ} (x : Fin n → EReal) (j : Fin n) : ℕ := (Finset.univ.filter fun i => before x i j = true).card

/-- The `k`-th position of the sort has `k` positions before it. -/
theorem rank_sortedFrom {n : ℕ} (x : Fin n → EReal) (k : Fin n) : rank x (sortedFrom (before x) k) = k := by
  have hB := before_strict x
  have hni : ∀ a b : Fin n, a < b → before x (sortedFrom (before x) b) (sortedFrom (before x) a) = false :=
    fun a b hab => sortedFrom_noInversion (before x) (before x) (fun a b h => hB.asymm a b h)
      (fun _ _ h => h) (fun a b c h1 h2 => hB.negTrans a b c h1 h2) a b hab
  have key : ∀ a b : Fin n, before x (sortedFrom (before x) a) (sortedFrom (before x) b) = true ↔ a < b := by
    intro a b
    constructor
    · intro h
      by_contra hc
      rcases lt_or_eq_of_le (not_lt.mp hc) with hlt | heq
      · rw [hni b a hlt] at h; exact absurd h (by simp)
      · subst heq; rw [hB.irrefl] at h; exact absurd h (by simp)
    · intro hab
      have hne : sortedFrom (before x) a ≠ sortedFrom (before x) b :=
        fun e => (ne_of_lt hab) (sortedFrom_injective _ e)
      rcases hB.total _ _ hne with h | h
      · exact h
      · rw [hni a b hab] at h; exact absurd h (by simp)
  unfold rank
  have e : (Finset.univ.filter fun i => before x i (sortedFrom (before x) k) = true)
      = (Finset.univ.filter fun a : Fin n => a < k).image (sortedFrom (before x)) := by
    ext i
    simp only [Finset.mem_filter, Finset.mem_univ, true_and, Finset.mem_image]
    constructor
    · intro h
      obtain ⟨a, rfl⟩ := sortedFrom_surjective (before x) i
      exact ⟨a, (key a k).mp h, rfl⟩
    · rintro ⟨a, ha, rfl⟩
      exact (key a k).mpr ha
  rw [e, Finset.card_image_of_injective _ (sortedFrom_injective _)]
  simpa [Finset.filter_gt_eq_Iio] using Fin.card_Iio k

/-- Two positions of equal rank are one. -/
theorem rank_inj {n : ℕ} (x : Fin n → EReal) {i j : Fin n} (h : rank x i = rank x j) : i = j := by
  obtain ⟨a, rfl⟩ := sortedFrom_surjective (before x) i
  obtain ⟨b, rfl⟩ := sortedFrom_surjective (before x) j
  rw [rank_sortedFrom, rank_sortedFrom] at h
  rw [Fin.ext h]

/-- A sum selecting the entry of rank `k` is the entry at the sort's `k`-th position. -/
theorem sum_rank {n : ℕ} (x f : Fin n → EReal) (k : Fin n) :
    (∑ j, (if (k : ℕ) = rank x j then (1 : EReal) else 0) * f j) = f (sortedFrom (byKey x) k) := by
  rw [sortedFrom_eq, Finset.sum_eq_single (sortedFrom (before x) k)]
  · rw [rank_sortedFrom]; simp
  · intro b _ hb
    rw [if_neg, zero_mul]
    intro h
    apply hb
    apply rank_inj x
    rw [rank_sortedFrom, ← h]
  · intro h; exact absurd (Finset.mem_univ _) h

/-- A one-bit word widened and read as a float is one or zero. -/
theorem sitofp_bit (b : Bool) :
    (FloatOps.sitofp (F := Ideal) .f32 (BitVec.setWidth 32 (BitVec.ofBool b)) : EReal) = if b = true then 1 else 0 := by
  cases b <;> simp [FloatOps.sitofp]

/-- The word of a small natural number, as a number. -/
theorem sitofp_nat (n : ℕ) (h : n < 2 ^ 31) :
    (FloatOps.sitofp (F := Ideal) .f32 (BitVec.ofNat 32 n) : EReal) = ((n : ℝ) : EReal) := by
  have : (BitVec.ofNat 32 n).toInt = n := by
    rw [BitVec.toInt_ofNat']; simp [Int.bmod]; omega
  simp [FloatOps.sitofp, this]

/-- The comparison of two words for equality, as a bit. -/
theorem cmpi_eq_bit (a b : BitVec 32) : IntOp.cmpi .eq a b = BitVec.ofBool (decide (a = b)) := by
  simp [IntOp.cmpi, BEq.beq]

/-- A sum of indicators counts. -/
theorem sum_bit {n : ℕ} (p : Fin n → Bool) :
    (∑ i, if p i = true then (1 : EReal) else 0) = (((Finset.univ.filter fun i => p i = true).card : ℝ) : EReal) := by
  rw [Finset.sum_ite]; simp

/-- Two small numbers are equal when their words are. -/
theorem ofNat_inj_small {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- The signed comparison of the words of two small numbers compares the numbers. -/
theorem slt_small {a b : ℕ} (ha : a < 2 ^ 31) (hb : b < 2 ^ 31) :
    IntOp.cmpi .slt (BitVec.ofNat 32 a) (BitVec.ofNat 32 b) = BitVec.ofBool (decide (a < b)) := by
  have h1 : (BitVec.ofNat 32 a).toInt = a := by rw [BitVec.toInt_ofNat']; simp [Int.bmod]; omega
  have h2 : (BitVec.ofNat 32 b).toInt = b := by rw [BitVec.toInt_ofNat']; simp [Int.bmod]; omega
  simp [IntOp.cmpi, BitVec.slt, h1, h2]

open Classical in
/-- The body's product row, at a centre and a channel: the tokens weighted by "its rank is this centre's number". -/
theorem pay_apply (ts : FVec Ideal S1x1x120 .f32) (tok : FVec Ideal S1x120x1024 .f32) (k : Fin 100) (l : Fin 1024) :
    k1_pay1 (F := Ideal) ts tok (ix3 0 k l)
      = ∑ j : Fin 120, (if (k : ℕ) = rank (fun j => ts (ix3 0 0 j)) j then (1 : EReal) else 0) * tok (ix3 0 j l) := by
  pointwise [k1_pay1]
  refine Finset.sum_congr rfl fun j _ => ?_
  congr 1
  have hcol : ∀ i : Fin 120, (∑ x : Fin 120,
      (FloatOps.sitofp (F := Ideal) FTy.f32
          (BitVec.setWidth 32 (IntOp.cmpi CmpIPredicate.eq (BitVec.ofNat 32 ↑i) (BitVec.ofNat 32 ↑x))) : EReal) *
        ts (ix3 0 0 x)) = ts (ix3 0 0 i) := by
    intro i
    rw [Finset.sum_eq_single i]
    · simp only [cmpi_eq_bit, sitofp_bit]; simp
    · intro b _ hb
      simp only [cmpi_eq_bit, sitofp_bit]
      rw [if_neg, zero_mul]
      simp only [decide_eq_true_eq]
      rw [ofNat_inj_small (by omega) (by omega)]
      exact fun h => hb (Fin.ext h.symm)
    · intro h; exact absurd (Finset.mem_univ _) h
  have hrow : ∀ i : Fin 120, (FloatOps.sitofp (F := Ideal) FTy.f32
      (BitVec.setWidth 32
        (IntOp.ori (BitVec.ofBool (decide (ts (ix3 0 0 j) < ts (ix3 0 0 i))))
          (IntOp.andi (BitVec.ofBool (decide (ts (ix3 0 0 i) = ts (ix3 0 0 j))))
            (IntOp.cmpi CmpIPredicate.slt (BitVec.ofNat 32 ↑i) (BitVec.ofNat 32 ↑j))))) : EReal)
      = if before (fun j => ts (ix3 0 0 j)) i j = true then 1 else 0 := by
    intro i
    rw [slt_small (by omega) (by omega)]
    have : IntOp.ori (BitVec.ofBool (decide (ts (ix3 0 0 j) < ts (ix3 0 0 i))))
          (IntOp.andi (BitVec.ofBool (decide (ts (ix3 0 0 i) = ts (ix3 0 0 j)))) (BitVec.ofBool (decide ((i : ℕ) < j))))
        = BitVec.ofBool (before (fun j => ts (ix3 0 0 j)) i j) := by
      unfold before IntOp.ori IntOp.andi
      rw [BitVec.ofBool_and_ofBool, BitVec.ofBool_or_ofBool]
      rfl
    rw [this, sitofp_bit]
  simp only [hcol, hrow, sum_bit, sitofp_bit, sitofp_nat _ (lt_trans k.2 (by norm_num : 100 < 2 ^ 31))]
  have : ((((k : ℕ) : ℝ) : EReal) = (((Finset.univ.filter fun i => before (fun j => ts (ix3 0 0 j)) i j = true).card : ℝ) : EReal))
      ↔ (k : ℕ) = rank (fun j => ts (ix3 0 0 j)) j := by
    rw [EReal.coe_eq_coe_iff, Nat.cast_inj]; rfl
  by_cases h : (k : ℕ) = rank (fun j => ts (ix3 0 0 j)) j
  · rw [if_pos h, if_pos]; exact decide_eq_true (this.mpr h)
  · rw [if_neg h, if_neg]; exact fun hc => h (this.mp (of_decide_eq_true hc))

/-- What the selection body stores: at centre `k`, the token at the `k`-th position of the scores' sort. -/
theorem pay_eq (ts : FVec Ideal S1x1x120 .f32) (tok : FVec Ideal S1x120x1024 .f32) (k : Fin 100) (l : Fin 1024) :
    k1_pay1 (F := Ideal) ts tok (ix3 0 k l)
      = tok (ix3 0 (sortedFrom (byKey fun j : Fin 120 => ts (ix3 0 0 j)) ⟨k, by omega⟩) l) := by
  rw [pay_apply]
  exact sum_rank (fun j => ts (ix3 0 0 j)) (fun j => tok (ix3 0 j l)) ⟨k, by omega⟩

end Cert.KSel
-- ==== Proof.Words.lean ====
/-
  The words the convolution kernel computes with, chunk by chunk of 240 pixels: the column of a pixel, the token
  its 4 by 4 tile belongs to, its row; and the zero-one matrices made of comparing such words.
-/
module

public import proofs.«01_k».proof.Proof.Gen.KernelIdeal.Frame
public import proofs.«01_k».proof.Proof.Sel
public import Idealize.ShloMosaic.Lib.Pointwise

@[expose] public section

set_option maxRecDepth 16384

noncomputable section

namespace Cert.KernelIdeal.Words

open Cert.KernelIdeal Cert.KernelIdeal.Gen Idealize.ShloMosaic

/-- The column of every pixel of a chunk, as a word: every chunk begins at the beginning of a row. -/
def column : IVec S240x1 32 := fun i => BitVec.ofNat 32 ((i 0).val % 80)

/-- A vector of one word per pixel of a chunk is known by its 240 words. -/
theorem ext_column {u v : IVec S240x1 32} (h : ∀ r : Fin 240, u (ix2 r 0) = v (ix2 r 0)) : u = v := by
  funext j
  idx_vars j
  obtain rfl : j1 = 0 := Subsingleton.elim _ _
  exact h j0

/-- The words each chunk takes for the columns of its pixels. -/
def columns : Fin 8 → IVec S240x1 32 :=
  ![k0_pay3, k0_pay20, k0_pay37, k0_pay54, k0_pay71, k0_pay88, k0_pay105, k0_pay122]

/-- Every chunk takes the columns of its pixels. -/
theorem columns_eq (c : Fin 8) : columns c = column := by
  fin_cases c <;> exact ext_column (by decide +kernel)

/-- A selection by the comparison of two words, each a small number. -/
theorem select_word {α : Type} {u v : BitVec 32} {a b : ℕ} (hu : u = BitVec.ofNat 32 a) (hv : v = BitVec.ofNat 32 b)
    (ha : a < 4096) (hb : b < 4096) (x y : α) :
    Scalar.select (IntOp.cmpi .eq u v) x y = if a = b then x else y := by
  subst hu hv
  rw [Cert.KSel.cmpi_eq_bit]
  simp only [Scalar.select, Cert.KSel.ofNat_inj_small (show a < 2 ^ 32 by omega) (show b < 2 ^ 32 by omega)]
  by_cases h : a = b <;> simp [h]

/-- The comparison of two words as a number. -/
theorem indicator_word {u v : BitVec 32} {a b : ℕ} (hu : u = BitVec.ofNat 32 a) (hv : v = BitVec.ofNat 32 b)
    (ha : a < 4096) (hb : b < 4096) :
    (FloatOps.sitofp (F := Ideal) .f32 (BitVec.setWidth 32 (IntOp.cmpi .eq u v)) : EReal) = if a = b then 1 else 0 := by
  subst hu hv
  rw [Cert.KSel.cmpi_eq_bit, Cert.KSel.sitofp_bit]
  simp only [decide_eq_true_eq, Cert.KSel.ofNat_inj_small (show a < 2 ^ 32 by omega) (show b < 2 ^ 32 by omega)]

/-- The comparison of a word with a constant it should differ from, as a number. -/
theorem differs_word {a b : ℕ} (ha : a < 4096) (hb : b < 4096) :
    (FloatOps.sitofp (F := Ideal) .f32 (BitVec.setWidth 32 (IntOp.cmpi .ne (BitVec.ofNat 32 a) (BitVec.ofNat 32 b))) : EReal)
      = if a = b then 0 else 1 := by
  have : IntOp.cmpi .ne (BitVec.ofNat 32 a) (BitVec.ofNat 32 b) = BitVec.ofBool (decide (a ≠ b)) := by
    simp only [IntOp.cmpi, bne, BEq.beq, ne_eq, decide_not,
      Cert.KSel.ofNat_inj_small (show a < 2 ^ 32 by omega) (show b < 2 ^ 32 by omega)]
  rw [this, Cert.KSel.sitofp_bit]
  by_cases h : a = b <;> simp [h]

/-- The token of the tile pixel `n` of the image belongs to. -/
def token (n : ℕ) : ℕ := n / 320 * 20 + n % 80 / 4

/-- A pixel's token is one of the 120. -/
theorem token_lt {n : ℕ} (h : n < 1920) : token n < 120 := by unfold token; omega

/-- The matrix that averages the pixels of chunk `c` over the tiles: a sixteenth at the pixel's token. -/
def average (c : ℕ) : FVec Ideal S120x240 .bf16 :=
  fun i => if token (240 * c + (i 1).val) = (i 0).val then Ideal.ofBits .f32 0x3D800000#32 else 0

/-- The printed averaging matrix is `average`, given its two words: the pixel, and twenty times its band of rows. -/
theorem average_of (c : Fin 8) {x v : IVec S120x240 32}
    (hx : ∀ (t : Fin 120) (r : Fin 240), x (ix2 t r) = BitVec.ofNat 32 (240 * c.val + r.val))
    (hv : ∀ (t : Fin 120) (r : Fin 240), v (ix2 t r) = BitVec.ofNat 32 ((240 * c.val + r.val) / 320 * 20)) :
    k0_pay18 (F := Ideal) (iota .tc S120x240 32 [0] iota_S120x240_d0_w32) x v 80#32 = average c.val := by
  funext j
  idx_vars j
  pointwise [k0_pay18, average]
  rw [hx, hv]
  refine select_word ?_ rfl (by have := token_lt (n := 240 * c.val + j1.val) (by omega); omega) (by omega) _ _
  obtain ⟨n, hn⟩ : ∃ n : Fin 1920, n.val = 240 * c.val + j1.val := ⟨⟨240 * c.val + j1.val, by omega⟩, rfl⟩
  rw [← hn]
  clear hn hx hv
  revert n
  decide +kernel

end Cert.KernelIdeal.Words

end
-- ==== Proof.Conv.lean ====
/-
  The convolution of a chunk of 240 pixels at an index: the sum over the nine taps and the channels, the blocks a tap
  loads being rows of the padded image.
-/
module

public import proofs.«01_k».proof.Proof.Words

@[expose] public section

set_option maxRecDepth 16384

noncomputable section

namespace Cert.KernelIdeal.Conv

open Cert.KernelIdeal Cert.KernelIdeal.Gen Idealize.ShloMosaic Cert.KernelIdeal.Words

/-- Row `n` of the padded image's pixels, at channel `c`. -/
def rowOf (x0 : Vec Ideal S1x2112x1024 .bf16) (n : ℕ) (c : Fin 1024) : EReal :=
  if h : n < 2112 then x0 (ix3 0 ⟨n, h⟩ c) else 0

/-- An element of the padded image, its row written in any way. -/
theorem rowOf_eq (x0 : Vec Ideal S1x2112x1024 .bf16) {a n : ℕ} (h : a < 2112) (e : a = n) (c : Fin 1024) :
    x0 (ix3 0 ⟨a, h⟩ c) = rowOf x0 n c := by
  subst e
  simp [rowOf, h]

/-- Zero at the taps that would reach over the image's left or right edge, one at the others. -/
def mask (k : Fin 9) (n : ℕ) : EReal := if k.val % 3 = 0 ∧ n % 80 = 0 ∨ k.val % 3 = 2 ∧ n % 80 = 79 then 0 else 1

/-- The convolution at pixel `n` and output channel `o`. -/
def hidden (x0 : Vec Ideal S1x2112x1024 .bf16) (w : Vec Ideal S9216x256 .bf16) (b : Vec Ideal S1x256 .f32)
    (n : ℕ) (o : Fin 256) : EReal :=
  (∑ k : Fin 9, ∑ c : Fin 1024, rowOf x0 (n + 15 + 80 * (k.val / 3) + k.val % 3) c * mask k n
    * w (ix2 ⟨k.val * 1024 + c.val, by omega⟩ o)) + b (ix2 0 o)

/-- The convolution of chunk `c` of the pixels. -/
def hiddenChunk (x0 : Vec Ideal S1x2112x1024 .bf16) (w : Vec Ideal S9216x256 .bf16) (b : Vec Ideal S1x256 .f32)
    (c : ℕ) : FVec Ideal S240x256 .f32 := fun i => hidden x0 w b (240 * c + (i 0).val) (i 1)

/-- A chunk's convolution, from its nine tap blocks. -/
def chunk (p : Fin 9 → Vec Ideal S1x240x1024 .bf16) (w : Vec Ideal S9216x256 .bf16) (b : Vec Ideal S1x256 .f32) :
    FVec Ideal S240x256 .f32 :=
  k0_pay14 (k0_pay7 column (p 0)) (k0_pay5 (p 1)) (k0_pay9 column (p 2)) (k0_pay7 column (p 3)) (k0_pay8 (p 4))
    (k0_pay9 column (p 5)) (k0_pay10 column (p 6)) (k0_pay11 (p 7)) (k0_pay12 (p 8)) (k0_pay13 column) w b

/-- Nine pieces of 1024 side by side: position `k * 1024 + c` is position `c` of piece `k`. -/
theorem ladder (f : Fin 9 → Fin 1024 → EReal) (x : ℕ) (k : Fin 9) (c : Fin 1024) (hx : x = k.val * 1024 + c.val) :
    (if h0 : x < 1024 then f 0 ⟨x, h0⟩ else if h1 : x - 1024 < 1024 then f 1 ⟨x - 1024, h1⟩ else if h2 : x - 1024 - 1024 < 1024 then f 2 ⟨x - 1024 - 1024, h2⟩ else if h3 : x - 1024 - 1024 - 1024 < 1024 then f 3 ⟨x - 1024 - 1024 - 1024, h3⟩ else if h4 : x - 1024 - 1024 - 1024 - 1024 < 1024 then f 4 ⟨x - 1024 - 1024 - 1024 - 1024, h4⟩ else if h5 : x - 1024 - 1024 - 1024 - 1024 - 1024 < 1024 then f 5 ⟨x - 1024 - 1024 - 1024 - 1024 - 1024, h5⟩ else if h6 : x - 1024 - 1024 - 1024 - 1024 - 1024 - 1024 < 1024 then f 6 ⟨x - 1024 - 1024 - 1024 - 1024 - 1024 - 1024, h6⟩ else if h7 : x - 1024 - 1024 - 1024 - 1024 - 1024 - 1024 - 1024 < 1024 then f 7 ⟨x - 1024 - 1024 - 1024 - 1024 - 1024 - 1024 - 1024, h7⟩ else f 8 ⟨x - 1024 - 1024 - 1024 - 1024 - 1024 - 1024 - 1024 - 1024, by omega⟩) = f k c := by
  have hc := c.isLt
  fin_cases k <;> dsimp only at hx <;>
    (repeat' first | rw [dif_pos (by omega)] | rw [dif_neg (by omega)]) <;>
    exact congrArg (f _) (Fin.ext (by dsimp only; omega))

set_option maxHeartbeats 2000000 in
/-- The chunk's one product of 9216 columns is the sum over the taps of the sums over the channels. -/
theorem chunk_apply (p : Fin 9 → Vec Ideal S1x240x1024 .bf16) (w : Vec Ideal S9216x256 .bf16)
    (b : Vec Ideal S1x256 .f32) (r : Fin 240) (o : Fin 256) :
    chunk p w b (ix2 r o) = (∑ k : Fin 9, ∑ c : Fin 1024, p k (ix3 0 r c) * mask k r.val
      * w (ix2 ⟨k.val * 1024 + c.val, by omega⟩ o)) + b (ix2 0 o) := by
  pointwise [chunk, k0_pay14, k0_pay7, k0_pay5, k0_pay9, k0_pay8, k0_pay10, k0_pay11, k0_pay12, k0_pay13, column]
  refine congrArg (· + b (ix2 0 o)) ?_
  rw [show (0#32) = BitVec.ofNat 32 0 from rfl, show (79#32) = BitVec.ofNat 32 79 from rfl]
  rw [differs_word (show r.val % 80 < 4096 by omega) (show 0 < 4096 by omega),
    differs_word (show r.val % 80 < 4096 by omega) (show 79 < 4096 by omega)]
  refine (Fin.sum_univ_tiles 9 1024 rfl _).trans (Finset.sum_congr rfl fun k _ => Finset.sum_congr rfl fun c _ => ?_)
  refine congrArg (· * w (ix2 ⟨k.val * 1024 + c.val, by omega⟩ o)) ?_
  refine (ladder ![
    fun c => p 0 (ix3 0 r c) * (if r.val % 80 = 0 then 0 else 1),
    fun c => p 1 (ix3 0 r c),
    fun c => p 2 (ix3 0 r c) * (if r.val % 80 = 79 then 0 else 1),
    fun c => p 3 (ix3 0 r c) * (if r.val % 80 = 0 then 0 else 1),
    fun c => p 4 (ix3 0 r c),
    fun c => p 5 (ix3 0 r c) * (if r.val % 80 = 79 then 0 else 1),
    fun c => p 6 (ix3 0 r c) * (if r.val % 80 = 0 then 0 else 1),
    fun c => p 7 (ix3 0 r c),
    fun c => p 8 (ix3 0 r c) * (if r.val % 80 = 79 then 0 else 1)] _ k c rfl).trans ?_
  fin_cases k <;> simp [mask]

end Cert.KernelIdeal.Conv

end
-- ==== Proof.Chunks.lean ====
/-
  The eight chunks of the convolution, each the printed payload of its nine tap blocks: chunk `c` is the convolution
  at pixels 240 c to 240 c + 239.
-/
module

public import proofs.«01_k».proof.Proof.Conv

@[expose] public section

set_option maxRecDepth 16384

noncomputable section

namespace Cert.KernelIdeal.Conv

open Cert.KernelIdeal Cert.KernelIdeal.Gen Idealize.ShloMosaic Cert.KernelIdeal.Words

/-- The mask of a pixel is that of its place in the chunk, as a chunk is three whole rows. -/
theorem mask_add (k : Fin 9) (c n : ℕ) : mask k (240 * c + n) = mask k n := by
  unfold mask
  rw [show (240 * c + n) % 80 = n % 80 by omega]

/-- A chunk whose tap blocks are the rows shifted by the taps is the convolution at its pixels. -/
theorem chunk_eq (x0 : Vec Ideal S1x2112x1024 .bf16) (p : Fin 9 → Vec Ideal S1x240x1024 .bf16)
    (w : Vec Ideal S9216x256 .bf16) (b : Vec Ideal S1x256 .f32) (c : ℕ)
    (hp : ∀ (k : Fin 9) (r : Fin 240) (ch : Fin 1024),
      p k (ix3 0 r ch) = rowOf x0 (240 * c + r.val + 15 + 80 * (k.val / 3) + k.val % 3) ch) :
    chunk p w b = hiddenChunk x0 w b c := by
  funext j
  idx_vars j
  rw [chunk_apply]
  show _ = hidden x0 w b (240 * c + j0.val) j1
  unfold hidden
  simp only [hp, mask_add]

variable (x0 : Vec Ideal S1x2112x1024 .bf16) (x1 : Vec Ideal S9216x256 .bf16) (x2 x3 x4 x5 : Vec Ideal S1x256 .f32)
  (x6 : Vec Ideal S1x1 .f32) (x7 : Vec Ideal S1x1x2 .f32)

/-- The weights are loaded whole. -/
theorem weights_whole : View.ld x1 r0_9 = x1 := by
  funext j
  idx_vars j
  pointwise []

/-- A row of 256 channels is loaded whole. -/
theorem row_whole (x : Vec Ideal S1x256 .f32) : View.ld x r0_10 = x := by
  funext j
  idx_vars j
  obtain rfl : j0 = 0 := Subsingleton.elim _ _
  pointwise []

/-- The nine blocks each chunk loads, one per tap. -/
def taps : Fin 8 → Fin 9 → Vec Ideal S1x240x1024 .bf16 :=
  ![![View.ld x0 r0_0, View.ld x0 r0_1, View.ld x0 r0_2, View.ld x0 r0_3, View.ld x0 r0_4,
      View.ld x0 r0_5, View.ld x0 r0_6, View.ld x0 r0_7, View.ld x0 r0_8],
    ![View.ld x0 r0_11, View.ld x0 r0_12, View.ld x0 r0_13, View.ld x0 r0_14, View.ld x0 r0_15,
      View.ld x0 r0_16, View.ld x0 r0_17, View.ld x0 r0_18, View.ld x0 r0_19],
    ![View.ld x0 r0_20, View.ld x0 r0_21, View.ld x0 r0_22, View.ld x0 r0_23, View.ld x0 r0_24,
      View.ld x0 r0_25, View.ld x0 r0_26, View.ld x0 r0_27, View.ld x0 r0_28],
    ![View.ld x0 r0_29, View.ld x0 r0_30, View.ld x0 r0_31, View.ld x0 r0_32, View.ld x0 r0_33,
      View.ld x0 r0_34, View.ld x0 r0_35, View.ld x0 r0_36, View.ld x0 r0_37],
    ![View.ld x0 r0_38, View.ld x0 r0_39, View.ld x0 r0_40, View.ld x0 r0_41, View.ld x0 r0_42,
      View.ld x0 r0_43, View.ld x0 r0_44, View.ld x0 r0_45, View.ld x0 r0_46],
    ![View.ld x0 r0_47, View.ld x0 r0_48, View.ld x0 r0_49, View.ld x0 r0_50, View.ld x0 r0_51,
      View.ld x0 r0_52, View.ld x0 r0_53, View.ld x0 r0_54, View.ld x0 r0_55],
    ![View.ld x0 r0_56, View.ld x0 r0_57, View.ld x0 r0_58, View.ld x0 r0_59, View.ld x0 r0_60,
      View.ld x0 r0_61, View.ld x0 r0_62, View.ld x0 r0_63, View.ld x0 r0_64],
    ![View.ld x0 r0_65, View.ld x0 r0_66, View.ld x0 r0_67, View.ld x0 r0_68, View.ld x0 r0_69,
      View.ld x0 r0_70, View.ld x0 r0_71, View.ld x0 r0_72, View.ld x0 r0_73]]

/-- The blocks a chunk loads are the rows shifted by the taps. -/
theorem taps_apply (c : Fin 8) (k : Fin 9) (r : Fin 240) (ch : Fin 1024) :
    taps x0 c k (ix3 0 r ch) = rowOf x0 (240 * c.val + r.val + 15 + 80 * (k.val / 3) + k.val % 3) ch := by
  fin_cases c <;> fin_cases k <;> pointwise [taps] <;> exact rowOf_eq x0 _ (by omega) ch

/-- The eight payloads that the kernel computes from the chunks' blocks. -/
def chunks : Fin 8 → FVec Ideal S240x256 .f32 :=
  ![k0_pay192 x0 x1 x2 x3 x4 x5 x6 x7, k0_pay194 x0 x1 x2 x3 x4 x5 x6 x7,
    k0_pay196 x0 x1 x2 x3 x4 x5 x6 x7, k0_pay198 x0 x1 x2 x3 x4 x5 x6 x7,
    k0_pay200 x0 x1 x2 x3 x4 x5 x6 x7, k0_pay202 x0 x1 x2 x3 x4 x5 x6 x7,
    k0_pay204 x0 x1 x2 x3 x4 x5 x6 x7, k0_pay206 x0 x1 x2 x3 x4 x5 x6 x7]

/-- Each of them is the convolution at the chunk's pixels. -/
theorem chunks_eq (c : Fin 8) : chunks x0 x1 x2 x3 x4 x5 x6 x7 c = hiddenChunk x0 x1 x2 c.val := by
  have e : chunks x0 x1 x2 x3 x4 x5 x6 x7 c = chunk (taps x0 c) (View.ld x1 r0_9) (View.ld x2 r0_10) := by
    unfold chunk
    rw [← columns_eq c]
    fin_cases c <;> rfl
  rw [e, weights_whole, row_whole]
  exact chunk_eq x0 _ x1 x2 c.val (taps_apply x0 c)

/-- The first of them. -/
theorem chunk0 : k0_pay192 x0 x1 x2 x3 x4 x5 x6 x7 = hiddenChunk x0 x1 x2 0 := chunks_eq x0 x1 x2 x3 x4 x5 x6 x7 0

/-- The second of them. -/
theorem chunk1 : k0_pay194 x0 x1 x2 x3 x4 x5 x6 x7 = hiddenChunk x0 x1 x2 1 := chunks_eq x0 x1 x2 x3 x4 x5 x6 x7 1

/-- The third of them. -/
theorem chunk2 : k0_pay196 x0 x1 x2 x3 x4 x5 x6 x7 = hiddenChunk x0 x1 x2 2 := chunks_eq x0 x1 x2 x3 x4 x5 x6 x7 2

/-- The fourth of them. -/
theorem chunk3 : k0_pay198 x0 x1 x2 x3 x4 x5 x6 x7 = hiddenChunk x0 x1 x2 3 := chunks_eq x0 x1 x2 x3 x4 x5 x6 x7 3

/-- The fifth of them. -/
theorem chunk4 : k0_pay200 x0 x1 x2 x3 x4 x5 x6 x7 = hiddenChunk x0 x1 x2 4 := chunks_eq x0 x1 x2 x3 x4 x5 x6 x7 4

/-- The sixth of them. -/
theorem chunk5 : k0_pay202 x0 x1 x2 x3 x4 x5 x6 x7 = hiddenChunk x0 x1 x2 5 := chunks_eq x0 x1 x2 x3 x4 x5 x6 x7 5

/-- The seventh of them. -/
theorem chunk6 : k0_pay204 x0 x1 x2 x3 x4 x5 x6 x7 = hiddenChunk x0 x1 x2 6 := chunks_eq x0 x1 x2 x3 x4 x5 x6 x7 6

/-- The eighth of them. -/
theorem chunk7 : k0_pay206 x0 x1 x2 x3 x4 x5 x6 x7 = hiddenChunk x0 x1 x2 7 := chunks_eq x0 x1 x2 x3 x4 x5 x6 x7 7

end Cert.KernelIdeal.Conv

end
-- ==== Proof.Mats.lean ====
/-
  The kernel's matrices of comparisons, read off at an index: the tile averages of the eight chunks, the sum over a
  group of channels, and the two matrices that lay the pixels out as an image.
-/
module

public import proofs.«01_k».proof.Proof.Words

@[expose] public section

set_option maxRecDepth 16384

noncomputable section

namespace Cert.KernelIdeal.Words

open Cert.KernelIdeal Cert.KernelIdeal.Gen Idealize.ShloMosaic

/-- The words each chunk takes for its pixels. -/
def pixels : Fin 8 → IVec S120x240 32 :=
  ![k0_pay16, k0_pay33, k0_pay50, k0_pay67, k0_pay84, k0_pay101, k0_pay118, k0_pay135]

/-- The words each chunk takes for its pixels' bands of four rows, twenty tokens each. -/
def bands : Fin 8 → IVec S120x240 32 :=
  ![k0_pay17, k0_pay34, k0_pay51, k0_pay68, k0_pay85, k0_pay102, k0_pay119, k0_pay136]

/-- A pixel's word is its number in the image. -/
theorem pixels_apply (c : Fin 8) (t : Fin 120) (r : Fin 240) : pixels c (ix2 t r) = BitVec.ofNat 32 (240 * c.val + r.val) :=
  (show pixels c (ix2 t r) = pixels c (ix2 0 r) by fin_cases c <;> rfl).trans
    ((by decide +kernel : ∀ (c : Fin 8) (r : Fin 240), pixels c (ix2 0 r) = BitVec.ofNat 32 (240 * c.val + r.val)) c r)

/-- A band's word is the number of its first token. -/
theorem bands_apply (c : Fin 8) (t : Fin 120) (r : Fin 240) :
    bands c (ix2 t r) = BitVec.ofNat 32 ((240 * c.val + r.val) / 320 * 20) :=
  (show bands c (ix2 t r) = bands c (ix2 0 r) by fin_cases c <;> rfl).trans
    ((by decide +kernel : ∀ (c : Fin 8) (r : Fin 240), bands c (ix2 0 r) = BitVec.ofNat 32 ((240 * c.val + r.val) / 320 * 20)) c r)

/-- The words of the tokens: the row's number. -/
def tokenWords : IVec S120x240 32 := iota .tc S120x240 32 [0] iota_S120x240_d0_w32

/-- The averaging matrices that the kernel computes, chunk by chunk. -/
def averages : Fin 8 → FVec Ideal S120x240 .bf16 :=
  ![k0_pay18 tokenWords k0_pay16 k0_pay17 80#32, k0_pay35 tokenWords k0_pay33 k0_pay34 80#32,
    k0_pay52 tokenWords k0_pay50 k0_pay51 80#32, k0_pay69 tokenWords k0_pay67 k0_pay68 80#32,
    k0_pay86 tokenWords k0_pay84 k0_pay85 80#32, k0_pay103 tokenWords k0_pay101 k0_pay102 80#32,
    k0_pay120 tokenWords k0_pay118 k0_pay119 80#32, k0_pay137 tokenWords k0_pay135 k0_pay136 80#32]

/-- Each of them is `average`. -/
theorem averages_eq (c : Fin 8) : averages c = average c.val :=
  (show averages c = k0_pay18 tokenWords (pixels c) (bands c) 80#32 by fin_cases c <;> rfl).trans
    (average_of c (pixels_apply c) (bands_apply c))

/-- The first of them. -/
theorem average0 : k0_pay18 (F := Ideal) (iota .tc S120x240 32 [0] iota_S120x240_d0_w32) k0_pay16 k0_pay17 80#32 = average 0 :=
  averages_eq 0

/-- The second of them. -/
theorem average1 : k0_pay35 (F := Ideal) (iota .tc S120x240 32 [0] iota_S120x240_d0_w32) k0_pay33 k0_pay34 80#32 = average 1 :=
  averages_eq 1

/-- The third of them. -/
theorem average2 : k0_pay52 (F := Ideal) (iota .tc S120x240 32 [0] iota_S120x240_d0_w32) k0_pay50 k0_pay51 80#32 = average 2 :=
  averages_eq 2

/-- The fourth of them. -/
theorem average3 : k0_pay69 (F := Ideal) (iota .tc S120x240 32 [0] iota_S120x240_d0_w32) k0_pay67 k0_pay68 80#32 = average 3 :=
  averages_eq 3

/-- The fifth of them. -/
theorem average4 : k0_pay86 (F := Ideal) (iota .tc S120x240 32 [0] iota_S120x240_d0_w32) k0_pay84 k0_pay85 80#32 = average 4 :=
  averages_eq 4

/-- The sixth of them. -/
theorem average5 : k0_pay103 (F := Ideal) (iota .tc S120x240 32 [0] iota_S120x240_d0_w32) k0_pay101 k0_pay102 80#32 = average 5 :=
  averages_eq 5

/-- The seventh of them. -/
theorem average6 : k0_pay120 (F := Ideal) (iota .tc S120x240 32 [0] iota_S120x240_d0_w32) k0_pay118 k0_pay119 80#32 = average 6 :=
  averages_eq 6

/-- The eighth of them. -/
theorem average7 : k0_pay137 (F := Ideal) (iota .tc S120x240 32 [0] iota_S120x240_d0_w32) k0_pay135 k0_pay136 80#32 = average 7 :=
  averages_eq 7

/-- The matrix that adds up the channels of a group: one where two channels are of one group of eight. -/
theorem group_apply (a b : Fin 256) :
    k0_pay144 (F := Ideal) k0_pay143 (iota .tc S256x256 32 [1] iota_S256x256_d1_w32) 8#32 (ix2 a b)
      = if a.val / 8 = b.val / 8 then 1 else 0 := by
  pointwise [k0_pay144, k0_pay143]
  refine indicator_word ?_ ?_ (by omega) (by omega)
  · revert a
    decide +kernel
  · revert b
    decide +kernel

/-- The value spread over the columns, kept only at the pixel's own column. -/
theorem spread_apply (v : FVec Ideal S1920x1 .f32) (n : Fin 1920) (x : Fin 80) :
    k0_pay190 (F := Ideal) v (iota .tc S1920x80 32 [1] iota_S1920x80_d1_w32)
        (Scalar.select (Scalar.cmpi .eq 80#32 0#32) 1#32 80#32) k0_pay188 k0_pay189 (ix2 n x)
      = if n.val % 80 = x.val then v (ix2 n 0) else 0 := by
  pointwise [k0_pay190, k0_pay189, k0_pay188]
  refine select_word (a := n.val % 80) (b := x.val) ?_ rfl (by omega) (by omega) _ _
  revert n
  decide +kernel

/-- The rows gathered: the sum over the pixels of the row. -/
theorem gather_apply (v : FVec Ideal S1920x80 .f32) (y : Fin 24) (x : Fin 80) :
    k0_pay1 (F := Ideal) v (iota .tc S24x1920 32 [0] iota_S24x1920_d0_w32) (iota .tc S24x1920 32 [1] iota_S24x1920_d1_w32)
        80#32 (ix3 0 y x)
      = ∑ n : Fin 1920, (if n.val / 80 = y.val then 1 else 0) * v (ix2 n x) := by
  pointwise [k0_pay1]
  refine Finset.sum_congr rfl fun n hn => ?_
  congr 1
  refine indicator_word (a := n.val / 80) (b := y.val) ?_ rfl (by omega) (by omega)
  clear hn v x y
  revert n
  decide +kernel

end Cert.KernelIdeal.Words

end
-- ==== Proof.Heat.lean ====
/-
  The heat map of the kernel's first pass: from the convolution's values at the pixels, the statistics of the groups
  of channels, the scale and the shift they give, the logit of every pixel, and the depth term of its row.
-/
module

public import proofs.«01_k».proof.Proof.Chunks
public import proofs.«01_k».proof.Proof.Mats

@[expose] public section

set_option maxRecDepth 16384

noncomputable section

namespace Cert.KernelIdeal.Heat

open Cert.KernelIdeal Cert.KernelIdeal.Gen Idealize.ShloMosaic Cert.KernelIdeal.Words Cert.KernelIdeal.Conv

/-- The 240 pixels of chunk `c`, of a value given at every pixel and channel. -/
def block (h : ℕ → Fin 256 → EReal) (c : ℕ) : FVec Ideal S240x256 .f32 := fun i => h (240 * c + (i 0).val) (i 1)

/-- The printed sums over the pixels. -/
def sums (h : ℕ → Fin 256 → EReal) : FVec Ideal S1x256 .f32 :=
  k0_pay141 (block h 5) (block h 6) (block h 7) (k0_pay139 (block h 0) (block h 1) (block h 2) (block h 3) (block h 4))

/-- The printed sums of squares over the pixels. -/
def squares (h : ℕ → Fin 256 → EReal) : FVec Ideal S1x256 .f32 :=
  k0_pay142 (block h 5) (block h 6) (block h 7) (k0_pay140 (block h 0) (block h 1) (block h 2) (block h 3) (block h 4))

/-- The printed sums are sums over all 1920 pixels. -/
theorem sums_apply (h : ℕ → Fin 256 → EReal) (o : Fin 256) : sums h (ix2 0 o) = ∑ n : Fin 1920, h n.val o := by
  rw [Fin.sum_univ_tiles 8 240 rfl]
  simp only [Fin.sum_univ_eight, mul_comm _ 240]
  pointwise [sums, k0_pay141, k0_pay139, block]

/-- The printed sums of squares are sums over all 1920 pixels. -/
theorem squares_apply (h : ℕ → Fin 256 → EReal) (o : Fin 256) :
    squares h (ix2 0 o) = ∑ n : Fin 1920, h n.val o * h n.val o := by
  rw [Fin.sum_univ_tiles 8 240 rfl]
  simp only [Fin.sum_univ_eight, mul_comm _ 240]
  pointwise [squares, k0_pay142, k0_pay140, block]

/-- The mean over a group of eight channels of all pixels, from the channels' sums. -/
def groupMean (s : Fin 256 → EReal) (o : Fin 256) : EReal :=
  Ideal.div (∑ a : Fin 256, s a * (if a.val / 8 = o.val / 8 then 1 else 0)) (Ideal.ofBits .f32 0x46700000#32)

/-- The printed mean of a channel is the mean over its group, of any row of channel sums. -/
theorem mean_apply (s : FVec Ideal S1x256 .f32) (o : Fin 256) :
    k0_pay145 s k0_pay143 (iota .tc S256x256 32 [1] iota_S256x256_d1_w32) 8#32 (ix2 0 o)
      = groupMean (fun a => s (ix2 0 a)) o := by
  pointwise [k0_pay145]
  exact congrArg (Ideal.div · _) (Finset.sum_congr rfl fun a _ => congrArg (s (ix2 0 a) * ·) (group_apply a o))

/-- The printed mean of the sums over the pixels. -/
theorem mean_sums (h : ℕ → Fin 256 → EReal) (o : Fin 256) :
    k0_pay145 (sums h) k0_pay143 (iota .tc S256x256 32 [1] iota_S256x256_d1_w32) 8#32 (ix2 0 o)
      = groupMean (fun a => ∑ n : Fin 1920, h n.val a) o := by
  rw [mean_apply]
  simp only [sums_apply]

/-- The factor of a channel. -/
def scale (h : ℕ → Fin 256 → EReal) (w : Fin 256 → EReal) (o : Fin 256) : EReal :=
  Ideal.rsqrt (groupMean (fun a => ∑ n : Fin 1920, h n.val a * h n.val a) o
    - groupMean (fun a => ∑ n : Fin 1920, h n.val a) o * groupMean (fun a => ∑ n : Fin 1920, h n.val a) o
    + Ideal.ofBits .f32 0x3727C5AC#32) * w o

/-- The summand of a channel. -/
def shift (h : ℕ → Fin 256 → EReal) (w b : Fin 256 → EReal) (o : Fin 256) : EReal :=
  b o - groupMean (fun a => ∑ n : Fin 1920, h n.val a) o * scale h w o

/-- The printed factor of a channel is `scale`. -/
theorem scale_apply (h : ℕ → Fin 256 → EReal) (w : Vec Ideal S1x256 .f32) (o : Fin 256) :
    k0_pay146 (sums h) (squares h) k0_pay143 (iota .tc S256x256 32 [1] iota_S256x256_d1_w32) 8#32 w (ix2 0 o)
      = scale h (fun a => w (ix2 0 a)) o := by
  pointwise [k0_pay146]
  refine congrArg (fun v => Ideal.rsqrt (v + _) * w (ix2 0 o)) (congrArg₂ (· - ·) ?_
    (congrArg₂ (· * ·) (mean_sums h o) (mean_sums h o)))
  refine congrArg (Ideal.div · _) (Finset.sum_congr rfl fun a _ => congrArg₂ (· * ·) ?_ (group_apply a o))
  exact squares_apply h a

/-- The printed summand of a channel is `shift`. -/
theorem shift_apply (h : ℕ → Fin 256 → EReal) (w b : Vec Ideal S1x256 .f32) (o : Fin 256) :
    k0_pay147 (sums h) (squares h) k0_pay143 (iota .tc S256x256 32 [1] iota_S256x256_d1_w32) 8#32 w b (ix2 0 o)
      = shift h (fun a => w (ix2 0 a)) (fun a => b (ix2 0 a)) o := by
  pointwise [k0_pay147]
  exact congrArg (b (ix2 0 o) - ·) (congrArg₂ (· * ·) (mean_sums h o) (scale_apply h w o))

/-- The rows of the pixels of chunk `c`, as words. -/
def rows (c : ℕ) : IVec S240x1 32 := fun i => BitVec.ofNat 32 ((240 * c + (i 0).val) / 80)

/-- The heat of a pixel: the logistic of its logit, less the depth penalty of its row. -/
def heat (fy cy : EReal) (h : ℕ → Fin 256 → EReal) (s t w2 : Fin 256 → EReal) (b2 : EReal) (n : ℕ) : EReal :=
  0 - max (Ideal.div (Ideal.ofBits .f32 0x43FA0000#32 * ((n / 80 : ℕ) - cy)) (fy * Ideal.ofBits .f32 0x41C00000#32)) 0
    + Ideal.logistic ((∑ o : Fin 256, max (h n o * s o + t o) 0 * w2 o) + b2)

/-- The chunk's printed piece of the map is `heat` at its pixels. -/
theorem piece_apply (fy cy : EReal) (h : ℕ → Fin 256 → EReal) (s t w2 : Vec Ideal S1x256 .f32) (b2 : Vec Ideal S1x1 .f32) (c : Fin 8)
    (r : Fin 240) :
    k0_pay182 (F := Ideal) fy cy (k0_pay150 (block h c.val) s t w2 b2) (rows c.val) (ix2 r 0)
      = heat fy cy h (fun o => s (ix2 0 o)) (fun o => t (ix2 0 o)) (fun o => w2 (ix2 0 o)) (b2 (ix2 0 0)) (240 * c.val + r.val) := by
  pointwise [k0_pay182, k0_pay150, block, rows]
  rw [Cert.KSel.sitofp_nat _ (by omega)]
  rfl

/-- Eight columns of 240 pixels, one after the other. -/
def join (p : Fin 8 → FVec Ideal S240x1 .f32) : FVec Ideal S1920x1 .f32 :=
  concatenate S1920x1 0 [⟨S240x1, p 0⟩, ⟨S240x1, p 1⟩, ⟨S240x1, p 2⟩, ⟨S240x1, p 3⟩, ⟨S240x1, p 4⟩, ⟨S240x1, p 5⟩,
    ⟨S240x1, p 6⟩, ⟨S240x1, p 7⟩] concatenates_S240x1_S240x1_S240x1_S240x1_S240x1_S240x1_S240x1_S240x1_S1920x1_d0

/-- Joined pieces that agree with a function of the pixel number are that function. -/
theorem join_apply (p : Fin 8 → FVec Ideal S240x1 .f32) (g : ℕ → EReal)
    (hp : ∀ (c : Fin 8) (r : Fin 240), p c (ix2 r 0) = g (240 * c.val + r.val)) (n : Fin 1920) : join p (ix2 n 0) = g n.val := by
  pointwise [join]
  simp only [hp]
  split_ifs
  all_goals
    refine congrArg g ?_
    simp <;> omega

/-- The words of the pixels' rows: the pixel's number, from `b` on, divided by 80 and rounded down. -/
def rowWord (b : BitVec 32) : IVec S240x1 32 :=
  have n : IVec S240x1 32 := addi (iota .tc S240x1 32 [0] iota_S240x1_d0_w32) (broadcast S240x1 b)
  have q : IVec S240x1 32 := divsi n (broadcast S240x1 80#32)
  have g : IVec S240x1 32 := subi (extui 32 (cmpi .sgt n (broadcast S240x1 0#32)) natLt_1_32)
    (extui 32 (cmpi .slt n (broadcast S240x1 0#32)) natLt_1_32)
  have d : IVec S240x1 32 := broadcast S240x1
    (Scalar.subi (Scalar.extui (Scalar.cmpi .sgt 80#32 0#32)) (Scalar.extui (Scalar.cmpi .slt 80#32 0#32)))
  have m : IVec S240x1 1 := cmpi .ne (remsi n (broadcast S240x1 80#32)) (broadcast S240x1 0#32)
  select (andi (cmpi .ne g d) m) (subi q (broadcast S240x1 1#32)) q

/-- The rounding division of a chunk's pixel numbers by 80 gives the numbers of their rows. -/
theorem rowWord_eq (c : Fin 8) : rowWord (BitVec.ofNat 32 (240 * c.val)) = rows c.val := by
  fin_cases c <;> exact ext_column (by decide +kernel)

variable (x0 : Vec Ideal S1x2112x1024 .bf16) (x1 : Vec Ideal S9216x256 .bf16) (x2 x3 x4 x5 : Vec Ideal S1x256 .f32)
  (x6 : Vec Ideal S1x1 .f32) (x7 : Vec Ideal S1x1x2 .f32)

/-- The kernel's row of factors is the one made of the sums and the sums of squares of the convolution. -/
theorem scale_printed : k0_pay211 x0 x1 x2 x3 x4 x5 x6 x7
    = k0_pay146 (sums (hidden x0 x1 x2)) (squares (hidden x0 x1 x2)) k0_pay143
        (iota .tc S256x256 32 [1] iota_S256x256_d1_w32) 8#32 x3 := by
  unfold k0_pay211 k0_pay210 k0_pay209 k0_pay208 k0_pay207
  rw [chunk0, chunk1, chunk2, chunk3, chunk4, chunk5, chunk6, chunk7, row_whole]
  rfl

/-- The kernel's row of summands is the one made of the sums and the sums of squares of the convolution. -/
theorem shift_printed : k0_pay212 x0 x1 x2 x3 x4 x5 x6 x7
    = k0_pay147 (sums (hidden x0 x1 x2)) (squares (hidden x0 x1 x2)) k0_pay143
        (iota .tc S256x256 32 [1] iota_S256x256_d1_w32) 8#32 x3 x4 := by
  unfold k0_pay212 k0_pay210 k0_pay209 k0_pay208 k0_pay207
  rw [chunk0, chunk1, chunk2, chunk3, chunk4, chunk5, chunk6, chunk7, row_whole, row_whole]
  rfl

/-- The heat map the kernel writes. -/
theorem out_apply (y : Fin 24) (x : Fin 80) :
    out0_8 x0 x1 x2 x3 x4 x5 x6 x7 (ix3 0 y x)
      = heat (x7 (ix3 0 0 0)) (Ideal.div (Ideal.ofBits .f32 0x41C00000#32 * x7 (ix3 0 0 1)) (Ideal.ofBits .f32 0x43BB8000#32))
          (hidden x0 x1 x2) (scale (hidden x0 x1 x2) fun a => x3 (ix2 0 a))
          (shift (hidden x0 x1 x2) (fun a => x3 (ix2 0 a)) fun a => x4 (ix2 0 a)) (fun o => x5 (ix2 0 o)) (x6 (ix2 0 0))
          (80 * y.val + x.val) := by
  refine (congrFun (View.canon_unit_zero (by decide) _ _) (ix3 0 y x)).trans ?_
  refine (gather_apply _ y x).trans ?_
  refine (Finset.sum_congr rfl fun n _ => congrArg (_ * ·) (spread_apply _ n x)).trans ?_
  refine (Finset.sum_eq_single (⟨80 * y.val + x.val, by omega⟩ : Fin 1920) ?_ ?_).trans ?_
  · intro n _ hn
    by_cases h : n.val / 80 = y.val
    · rw [if_neg fun e : n.val % 80 = x.val => hn (Fin.ext (show n.val = 80 * y.val + x.val by omega)), mul_zero]
    · rw [if_neg h, zero_mul]
  · exact fun h => absurd (Finset.mem_univ _) h
  rw [if_pos (show (80 * y.val + x.val) / 80 = y.val by omega), if_pos (show (80 * y.val + x.val) % 80 = x.val by omega),
    one_mul, scale_printed, shift_printed, chunk0, chunk1, chunk2, chunk3, chunk4, chunk5, chunk6, chunk7, row_whole]
  have e : View.ld x6 r0_77 = x6 := by
    funext j
    idx_vars j
    obtain rfl : j0 = 0 := Subsingleton.elim _ _
    obtain rfl : j1 = 0 := Subsingleton.elim _ _
    pointwise []
  rw [e]
  refine (join_apply (fun c => k0_pay182 (k0_pay148 (View.ld x7 r0_75)) (k0_pay149 (View.ld x7 r0_76)) (k0_pay150
    (block (hidden x0 x1 x2) c.val)
    (k0_pay146 (sums (hidden x0 x1 x2)) (squares (hidden x0 x1 x2)) k0_pay143
        (iota .tc S256x256 32 [1] iota_S256x256_d1_w32) 8#32 x3)
    (k0_pay147 (sums (hidden x0 x1 x2)) (squares (hidden x0 x1 x2)) k0_pay143
        (iota .tc S256x256 32 [1] iota_S256x256_d1_w32) 8#32 x3 x4) x5 x6)
    (rowWord (BitVec.ofNat 32 (240 * c.val)))) _ ?_ ⟨80 * y.val + x.val, by omega⟩).trans rfl
  intro c r
  rw [rowWord_eq, piece_apply]
  have fy : k0_pay148 (F := Ideal) (View.ld x7 r0_75) = x7 (ix3 0 0 0) := by
    pointwise [k0_pay148]
  have cy : k0_pay149 (F := Ideal) (View.ld x7 r0_76)
      = Ideal.div (Ideal.ofBits .f32 0x41C00000#32 * x7 (ix3 0 0 1)) (Ideal.ofBits .f32 0x43BB8000#32) := by
    pointwise [k0_pay149]
  rw [fy, cy]
  exact congrArg₂ (fun s t => heat _ _ _ s t _ _ _) (funext fun o => scale_apply _ _ o) (funext fun o => shift_apply _ _ _ o)

end Cert.KernelIdeal.Heat

end
-- ==== Proof.Norm.lean ====
/-
  The two forms of the group normalisation. The kernel takes the variance as the mean of the squares less the square of
  the mean and folds the normalisation into one factor and one term per channel; the reference takes the mean of the
  squared deviations, divides by its root, and then scales. On finite values the two agree.
-/
module

public import proofs.«01_k».proof.Proof.Heat
public import proofs.«01_k».proof.Proof.Sel
public import Idealize.ShloMosaic.Lib.Pointwise

@[expose] public section

set_option maxRecDepth 16384

noncomputable section

namespace Cert.KernelIdeal.Norm

open Cert.KernelIdeal Cert.KernelIdeal.Gen Idealize.ShloMosaic Cert.KernelIdeal.Heat

/-- Channel `e` of the group of channel `o`. -/
def mate (o : Fin 256) (e : Fin 8) : Fin 256 := ⟨o.val / 8 * 8 + e.val, by omega⟩

/-- The sum over all channels with the others' terms struck out is the sum over the group. -/
theorem group_sum (s : Fin 256 → EReal) (o : Fin 256) :
    ∑ a : Fin 256, s a * (if a.val / 8 = o.val / 8 then 1 else 0) = ∑ e : Fin 8, s (mate o e) := by
  rw [Fin.sum_univ_tiles 32 8 rfl, Finset.sum_eq_single (⟨o.val / 8, by omega⟩ : Fin 32)]
  · refine Finset.sum_congr rfl fun e _ => ?_
    rw [if_pos (by dsimp only; omega), mul_one]
    rfl
  · intro g _ hg
    refine Finset.sum_eq_zero fun e _ => ?_
    rw [if_neg (fun h => hg (Fin.ext (by dsimp only at h ⊢; omega))), mul_zero]
  · exact fun h => absurd (Finset.mem_univ _) h

/-- The sum over the pixels, row by row. -/
theorem pixel_sum (f : ℕ → EReal) : ∑ n : Fin 1920, f n.val = ∑ i : Fin 24, ∑ j : Fin 80, f (i.val * 80 + j.val) :=
  Fin.sum_univ_tiles 24 80 rfl _

/-- The mean over a group and all pixels. -/
def mean (f : Fin 8 → Fin 24 → Fin 80 → EReal) : EReal :=
  Ideal.div (∑ e : Fin 8, ∑ i : Fin 24, ∑ j : Fin 80, f e i j) (Ideal.ofBits .f32 0x46700000#32)

/-- The kernel's mean, of the channels' sums, is the mean over the group and all pixels. -/
theorem groupMean_eq (f : ℕ → Fin 256 → EReal) (o : Fin 256) :
    groupMean (fun a => ∑ n : Fin 1920, f n.val a) o = mean fun e i j => f (i.val * 80 + j.val) (mate o e) := by
  unfold groupMean mean
  rw [group_sum]
  exact congrArg (Ideal.div · _) (Finset.sum_congr rfl fun e _ => pixel_sum fun n => f n (mate o e))

/-- The literal that the means divide by is 15360 = 8 · 1920. -/
theorem count_eq : Ideal.ofBits .f32 0x46700000#32 = ((15360 : ℝ) : EReal) := by
  simp [Ideal.ofBits, Ideal.ieee, -EReal.coe_mul]
  norm_num

/-- The small term under the root is positive. -/
theorem small_pos : ∃ ε : ℝ, 0 < ε ∧ Ideal.ofBits .f32 0x3727C5AC#32 = (ε : EReal) := by
  simp [Ideal.ofBits, Ideal.ieee, -EReal.coe_mul]

/-- A sum of finite values is finite. -/
theorem sum_coe {ι : Type*} (t : Finset ι) (f : ι → ℝ) : ∑ p ∈ t, (f p : EReal) = ((∑ p ∈ t, f p : ℝ) : EReal) := by
  classical
  induction t using Finset.induction_on with
  | empty => simp
  | insert a t h ih => rw [Finset.sum_insert h, Finset.sum_insert h, ih, EReal.coe_add]

/-- The mean of finite values is finite. -/
theorem mean_coe (g : Fin 8 → Fin 24 → Fin 80 → EReal) (f : Fin 8 × Fin 24 × Fin 80 → ℝ)
    (h : ∀ e i j, g e i j = (f (e, i, j) : EReal)) : mean g = (((∑ p, f p) / 15360 : ℝ) : EReal) := by
  unfold mean
  rw [count_eq, Ideal.div_coe (by norm_num), div_eq_mul_one_div (∑ p, f p), EReal.coe_mul, ← sum_coe]
  simp only [Fintype.sum_prod_type, h]

/-- The mean of the squared deviations is the mean of the squares less the square of the mean. -/
theorem deviations {ι : Type*} [Fintype ι] (f : ι → ℝ) (N μ : ℝ) (hN : (Fintype.card ι : ℝ) = N) (h0 : N ≠ 0)
    (hμ : μ = (∑ p, f p) / N) : (∑ p, (f p - μ) * (f p - μ)) / N = (∑ p, f p * f p) / N - μ * μ := by
  have e : ∑ p, f p = μ * N := by rw [hμ]; field_simp
  have : ∑ p, (f p - μ) * (f p - μ) = ∑ p, f p * f p - 2 * μ * ∑ p, f p + N * (μ * μ) := by
    rw [Finset.mul_sum, ← Finset.sum_sub_distrib, ← hN, ← nsmul_eq_mul, ← Finset.card_univ, ← Finset.sum_const, ← Finset.sum_add_distrib]
    exact Finset.sum_congr rfl fun p _ => by ring
  rw [this, e]
  field_simp
  ring

/-- The normalised value, the reference's way. -/
def plain (f : Fin 8 → Fin 24 → Fin 80 → EReal) (x w b : EReal) : EReal :=
  Ideal.div (x - mean f) (Ideal.sqrt (mean (fun e i j => (f e i j - mean f) * (f e i j - mean f)) + Ideal.ofBits .f32 0x3727C5AC#32)) * w + b

/-- Over finite values the kernel's factor and summand normalise as the reference does. -/
theorem folded_eq (h : ℕ → Fin 256 → EReal) (r : ℕ → Fin 256 → ℝ) (hr : ∀ n o, h n o = (r n o : EReal))
    (w b : Fin 256 → EReal) (o : Fin 256) (v : ℝ) (hw : w o = (v : EReal)) (n : ℕ) :
    h n o * scale h w o + shift h w b o = plain (fun e i j => h (i.val * 80 + j.val) (mate o e)) (h n o) (w o) (b o) := by
  obtain ⟨ε, hε, eε⟩ := small_pos
  obtain ⟨f, hf⟩ : ∃ f : Fin 8 × Fin 24 × Fin 80 → ℝ, ∀ e i j, h (i.val * 80 + j.val) (mate o e) = (f (e, i, j) : EReal) :=
    ⟨fun p => r (p.2.1.val * 80 + p.2.2.val) (mate o p.1), fun e i j => hr _ _⟩
  obtain ⟨μ, hμ⟩ : ∃ μ : ℝ, μ = (∑ p, f p) / 15360 := ⟨_, rfl⟩
  have e1 : mean (fun e i j => h (i.val * 80 + j.val) (mate o e)) = (μ : EReal) := (mean_coe _ f hf).trans (by rw [hμ])
  have e2 : mean (fun e i j => h (i.val * 80 + j.val) (mate o e) * h (i.val * 80 + j.val) (mate o e))
      = (((∑ p, f p * f p) / 15360 : ℝ) : EReal) := mean_coe _ (fun p => f p * f p) fun e i j => by
    rw [hf, EReal.coe_mul]
  have e3 : mean (fun e i j => (h (i.val * 80 + j.val) (mate o e) - (μ : EReal)) * (h (i.val * 80 + j.val) (mate o e) - (μ : EReal)))
      = (((∑ p, (f p - μ) * (f p - μ)) / 15360 : ℝ) : EReal) := mean_coe _ (fun p => (f p - μ) * (f p - μ)) fun e i j => by
    rw [hf, EReal.coe_mul, EReal.coe_sub]
  have e4 := deviations f 15360 μ (by simp) (by norm_num) hμ
  have pos : 0 ≤ (∑ p, (f p - μ) * (f p - μ)) / 15360 :=
    div_nonneg (Finset.sum_nonneg fun p _ => mul_self_nonneg _) (by norm_num)
  unfold shift scale plain
  rw [groupMean_eq (fun n a => h n a * h n a), groupMean_eq, e1, e2, e3, eε, hw, hr, e4]
  rw [e4] at pos
  generalize (∑ p, f p * f p) / 15360 = A at pos
  have hS : 0 < A - μ * μ + ε := by linarith
  rw [← EReal.coe_mul, ← EReal.coe_sub, ← EReal.coe_add, Ideal.rsqrt_coe, Ideal.sqrt_coe, if_neg (by linarith),
    if_neg hS.ne', if_neg (by linarith), Ideal.div_coe (Real.sqrt_pos.mpr hS).ne']
  generalize Real.sqrt (A - μ * μ + ε) = S
  generalize r n o = x
  generalize b o = t
  rw [← EReal.coe_sub, ← EReal.coe_mul, ← EReal.coe_mul, ← EReal.coe_mul, ← EReal.coe_mul, ← EReal.coe_mul, sub_eq_add_neg,
    add_left_comm, ← EReal.coe_neg, ← EReal.coe_add, add_comm]
  congr 2
  rw [one_div]
  ring

end Cert.KernelIdeal.Norm

end
-- ==== Proof.Tok.lean ====
/-
  The token sums of the convolution kernel: over the eight chunks, the averaging matrix times the rows of the image.
-/
module

public import proofs.«01_k».proof.Proof.Conv
public import proofs.«01_k».proof.Proof.Mats

@[expose] public section

set_option maxRecDepth 16384

noncomputable section

namespace Cert.KernelIdeal.Tok

open Cert.KernelIdeal Cert.KernelIdeal.Gen Idealize.ShloMosaic Cert.KernelIdeal.Words Cert.KernelIdeal.Conv

/-- The sum over the image's pixels, of a sixteenth of those in the token's tile. -/
def tokens (x0 : Vec Ideal S1x2112x1024 .bf16) (t : Fin 120) (ch : Fin 1024) : EReal :=
  ∑ n : Fin 1920, (if token n.val = t.val then Ideal.ofBits .f32 0x3D800000#32 else 0) * rowOf x0 (96 + n.val) ch

/-- One chunk's step. -/
def step (acc : FVec Ideal S120x1024 .f32) (c : ℕ) (p : Vec Ideal S1x240x1024 .bf16) : FVec Ideal S120x1024 .f32 :=
  k0_pay19 acc (k0_pay15 p) (average c)

/-- A step adds the chunk's part of the sum. -/
theorem step_apply (acc : FVec Ideal S120x1024 .f32) (c : ℕ) (p : Vec Ideal S1x240x1024 .bf16) (t : Fin 120) (ch : Fin 1024) :
    step acc c p (ix2 t ch) = acc (ix2 t ch)
      + ∑ r : Fin 240, (if token (240 * c + r.val) = t.val then Ideal.ofBits .f32 0x3D800000#32 else 0) * p (ix3 0 r ch) := by
  pointwise [step, k0_pay19, k0_pay15, average]

/-- The eight steps, from zero. -/
def steps (p : Fin 8 → Vec Ideal S1x240x1024 .bf16) : FVec Ideal S120x1024 .f32 :=
  step (step (step (step (step (step (step (step k0_pay2 0 (p 0)) 1 (p 1)) 2 (p 2)) 3 (p 3)) 4 (p 4)) 5 (p 5)) 6 (p 6)) 7 (p 7)

/-- The eight steps over the image's rows give the token sums. -/
theorem steps_eq (x0 : Vec Ideal S1x2112x1024 .bf16) (p : Fin 8 → Vec Ideal S1x240x1024 .bf16)
    (hp : ∀ (c : Fin 8) (r : Fin 240) (ch : Fin 1024), p c (ix3 0 r ch) = rowOf x0 (96 + (c.val * 240 + r.val)) ch)
    (t : Fin 120) (ch : Fin 1024) : steps p (ix2 t ch) = tokens x0 t ch := by
  unfold steps tokens
  simp only [step_apply, hp]
  rw [Fin.sum_univ_tiles 8 240 rfl, show k0_pay2 (F := Ideal) (ix2 t ch) = 0 by pointwise [k0_pay2], zero_add]
  simp only [Fin.sum_univ_eight, mul_comm 240]
  rfl

/-- The token sums the kernel writes. -/
theorem out_apply (x0 : Vec Ideal S1x2112x1024 .bf16) (x1 : Vec Ideal S9216x256 .bf16) (x2 x3 x4 x5 : Vec Ideal S1x256 .f32)
    (x6 : Vec Ideal S1x1 .f32) (x7 : Vec Ideal S1x1x2 .f32) (t : Fin 120) (ch : Fin 1024) :
    out0_9 x0 x1 x2 x3 x4 x5 x6 x7 (ix3 0 t ch) = tokens x0 t ch := by
  rw [← steps_eq x0 ![View.ld x0 r0_4, View.ld x0 r0_15, View.ld x0 r0_24, View.ld x0 r0_33, View.ld x0 r0_42, View.ld x0 r0_51, View.ld x0 r0_60, View.ld x0 r0_69]
    (by intro c r ch; fin_cases c <;> pointwise [] <;> exact rowOf_eq x0 _ (by omega) ch) t ch]
  unfold out0_9
  rw [average0, average1, average2, average3, average4, average5, average6, average7]
  refine (congrFun (View.canon_unit_zero (by decide) _ _) (ix3 0 t ch)).trans ?_
  show k0_pay138 _ _ _ (ix3 0 t ch) = k0_pay19 _ _ _ (ix2 t ch)
  pointwise [k0_pay138, k0_pay19]
  rfl

end Cert.KernelIdeal.Tok

end
-- ==== Proof.Spec.lean ====
/-
  The reference, cut into named steps: the padded windows, the convolution, the mean and the variance of a group of
  channels, the heat map, the depth term, the scores of the tokens, the tokens, and the centers.
-/
module

public import proofs.«01_k».proof.Proof.Gen.ReferenceIdeal.Run
public import Idealize.ShloMosaic.Lib.Pointwise

@[expose] public section

set_option maxRecDepth 16384

noncomputable section

namespace Cert.Spec

open Cert.ReferenceIdeal Cert.ReferenceIdeal.Gen Idealize.ShloMosaic Idealize.ShloMosaic.TcCoe

/-- Nine blocks of images, one after the other. -/
def stack (u0 u1 u2 u3 u4 u5 u6 u7 u8 : FVec Ideal S1x8x1024x24x80 .f32) : FVec Ideal S9x8x1024x24x80 .f32 :=
  concatenate S9x8x1024x24x80 0 [⟨S1x8x1024x24x80, u0⟩, ⟨S1x8x1024x24x80, u1⟩, ⟨S1x8x1024x24x80, u2⟩,
    ⟨S1x8x1024x24x80, u3⟩, ⟨S1x8x1024x24x80, u4⟩, ⟨S1x8x1024x24x80, u5⟩, ⟨S1x8x1024x24x80, u6⟩, ⟨S1x8x1024x24x80, u7⟩,
    ⟨S1x8x1024x24x80, u8⟩] concatenates_S1x8x1024x24x80_S1x8x1024x24x80_S1x8x1024x24x80_S1x8x1024x24x80_S1x8x1024x24x80_S1x8x1024x24x80_S1x8x1024x24x80_S1x8x1024x24x80_S1x8x1024x24x80_S9x8x1024x24x80_d0

/-- The images with a border of zeros. -/
def padded (x : FVec Ideal S8x1024x24x80 .f32) : FVec Ideal S1x8x1024x26x82 .f32 :=
  broadcastInDim S1x8x1024x26x82 ![1, 2, 3, 4] bcast_S8x1024x26x82_S1x8x1024x26x82_1_2_3_4
    (pad S8x1024x26x82 ![0, 0, 1, 1] ![0, 0, 1, 1] ![0, 0, 0, 0] x (sitofp .f32 (constantI S_ 32 0#32))
      pads_S8x1024x24x80_S8x1024x26x82_000_000_110_110 h_S_)

/-- The nine shifted images. -/
def windows (x : FVec Ideal S8x1024x24x80 .f32) : FVec Ideal S9x8x1024x24x80 .f32 :=
  stack (extractStridedSlice S1x8x1024x24x80 ![0, 0, 0, 0, 0] (padded x) slices_S1x8x1024x26x82_S1x8x1024x24x80_0_0_0_0_0)
    (extractStridedSlice S1x8x1024x24x80 ![0, 0, 0, 0, 1] (padded x) slices_S1x8x1024x26x82_S1x8x1024x24x80_0_0_0_0_1)
    (extractStridedSlice S1x8x1024x24x80 ![0, 0, 0, 0, 2] (padded x) slices_S1x8x1024x26x82_S1x8x1024x24x80_0_0_0_0_2)
    (extractStridedSlice S1x8x1024x24x80 ![0, 0, 0, 1, 0] (padded x) slices_S1x8x1024x26x82_S1x8x1024x24x80_0_0_0_1_0)
    (extractStridedSlice S1x8x1024x24x80 ![0, 0, 0, 1, 1] (padded x) slices_S1x8x1024x26x82_S1x8x1024x24x80_0_0_0_1_1)
    (extractStridedSlice S1x8x1024x24x80 ![0, 0, 0, 1, 2] (padded x) slices_S1x8x1024x26x82_S1x8x1024x24x80_0_0_0_1_2)
    (extractStridedSlice S1x8x1024x24x80 ![0, 0, 0, 2, 0] (padded x) slices_S1x8x1024x26x82_S1x8x1024x24x80_0_0_0_2_0)
    (extractStridedSlice S1x8x1024x24x80 ![0, 0, 0, 2, 1] (padded x) slices_S1x8x1024x26x82_S1x8x1024x24x80_0_0_0_2_1)
    (extractStridedSlice S1x8x1024x24x80 ![0, 0, 0, 2, 2] (padded x) slices_S1x8x1024x26x82_S1x8x1024x24x80_0_0_0_2_2)

/-- The convolution of stacked windows, its channels in groups. -/
def hid (xw : FVec Ideal S9x8x1024x24x80 .f32) (w : FVec Ideal S256x1024x3x3 .f32) (b : FVec Ideal S256 .f32) :
    FVec Ideal S8x32x8x24x80 .f32 :=
  shapeCast S8x32x8x24x80 (addf (transpose S8x256x24x80 [1, 0, 2, 3]
    (Host.dotGeneral dot_S256x1024x9_S9x8x1024x24x80_S256x8x24x80_12_20_0_134_n_n none
      (shapeCast S256x1024x9 w shapeCasts_S256x1024x3x3_S256x1024x9) xw) transposes_S256x8x24x80_S8x256x24x80_1_0_2_3)
    (broadcastInDim S8x256x24x80 ![0, 1, 2, 3] bcast_S1x256x1x1_S8x256x24x80_0_1_2_3
      (shapeCast S1x256x1x1 b shapeCasts_S256_S1x256x1x1))) shapeCasts_S8x256x24x80_S8x32x8x24x80

/-- The mean over a group of channels and all pixels. -/
def mean (h : FVec Ideal S8x32x8x24x80 .f32) : FVec Ideal S8x32x1x1x1 .f32 :=
  Host.divf (broadcastInDim S8x32x1x1x1 ![0, 1] bcast_S8x32_S8x32x1x1x1_0_1
    (Host.reduceAdd h (constant S_ .f32 0x00000000#32) reducesTo_S8x32x8x24x80_S8x32_d2_3_4 h_S_))
    (broadcastInDim S8x32x1x1x1 ![] bcast_S_S8x32x1x1x1 (constant S_ .f32 0x46700000#32))

/-- The values less their group's mean. -/
def centred (h : FVec Ideal S8x32x8x24x80 .f32) : FVec Ideal S8x32x8x24x80 .f32 :=
  subf h (broadcastInDim S8x32x8x24x80 ![0, 1, 2, 3, 4] bcast_S8x32x1x1x1_S8x32x8x24x80_0_1_2_3_4 (mean h))

/-- The variance of a group. -/
def variance (h : FVec Ideal S8x32x8x24x80 .f32) : FVec Ideal S8x32x1x1x1 .f32 := mean (mulf (centred h) (centred h))

/-- The normalised values, scaled and shifted by channel. -/
def normed (h : FVec Ideal S8x32x8x24x80 .f32) (v : FVec Ideal S8x32x1x1x1 .f32) (w b : FVec Ideal S256 .f32) :
    FVec Ideal S8x256x24x80 .f32 :=
  addf (mulf (shapeCast S8x256x24x80 (Host.divf (centred h)
    (broadcastInDim S8x32x8x24x80 ![0, 1, 2, 3, 4] bcast_S8x32x1x1x1_S8x32x8x24x80_0_1_2_3_4
      (Host.sqrt (addf v (broadcastInDim S8x32x1x1x1 ![] bcast_S_S8x32x1x1x1 (constant S_ .f32 0x3727C5AC#32))))))
    shapeCasts_S8x32x8x24x80_S8x256x24x80)
    (broadcastInDim S8x256x24x80 ![0, 1, 2, 3] bcast_S1x256x1x1_S8x256x24x80_0_1_2_3
      (shapeCast S1x256x1x1 w shapeCasts_S256_S1x256x1x1)))
    (broadcastInDim S8x256x24x80 ![0, 1, 2, 3] bcast_S1x256x1x1_S8x256x24x80_0_1_2_3
      (shapeCast S1x256x1x1 b shapeCasts_S256_S1x256x1x1))

/-- The logistic of the second convolution of the positive parts. -/
def heat (z : FVec Ideal S8x256x24x80 .f32) (w2 : FVec Ideal S1x256x1x1 .f32) (b2 : FVec Ideal S1 .f32) :
    FVec Ideal S8x24x80 .f32 :=
  shapeCast S8x24x80 (Host.divf (broadcastInDim S8x1x24x80 ![] bcast_S_S8x1x24x80 (constant S_ .f32 0x3F800000#32))
    (addf (broadcastInDim S8x1x24x80 ![] bcast_S_S8x1x24x80 (constant S_ .f32 0x3F800000#32)) (Host.exp (Host.negf
      (addf (transpose S8x1x24x80 [1, 0, 2, 3] (Host.dotGeneral dot_S1x256_S8x256x24x80_S1x8x24x80_1_1_0_023_n_n none
        (shapeCast S1x256 w2 shapeCasts_S1x256x1x1_S1x256)
        (maximumf z (broadcastInDim S8x256x24x80 ![] bcast_S_S8x256x24x80 (constant S_ .f32 0x00000000#32))))
        transposes_S1x8x24x80_S8x1x24x80_1_0_2_3)
        (broadcastInDim S8x1x24x80 ![0, 1, 2, 3] bcast_S1x1x1x1_S8x1x24x80_0_1_2_3
          (shapeCast S1x1x1x1 b2 shapeCasts_S1_S1x1x1x1))))))) shapeCasts_S8x1x24x80_S8x24x80

/-- The depth penalty of every row, from the rows' numbers and the two calibration values. -/
def depthOf (v : FVec Ideal S8x24x80 .f32) (fy cy : FVec Ideal S8x1x1 .f32) : FVec Ideal S8x24x80 .f32 :=
  Host.negf (maximumf (Host.divf (mulf (broadcastInDim S8x24x80 ![] bcast_S_S8x24x80 (constant S_ .f32 0x43FA0000#32))
    (subf v (broadcastInDim S8x24x80 ![0, 1, 2] bcast_S8x1x1_S8x24x80_0_1_2
      (Host.divf (mulf (broadcastInDim S8x1x1 ![] bcast_S_S8x1x1 (constant S_ .f32 0x41C00000#32)) cy)
        (broadcastInDim S8x1x1 ![] bcast_S_S8x1x1 (constant S_ .f32 0x43BB8000#32))))))
    (broadcastInDim S8x24x80 ![0, 1, 2] bcast_S8x1x1_S8x24x80_0_1_2
      (mulf fy (broadcastInDim S8x1x1 ![] bcast_S_S8x1x1 (constant S_ .f32 0x41C00000#32)))))
    (broadcastInDim S8x24x80 ![] bcast_S_S8x24x80 (constant S_ .f32 0x00000000#32)))

/-- The first calibration value. -/
def focal (cal : FVec Ideal S8x3x4 .f32) : FVec Ideal S8x1x1 .f32 :=
  extractStridedSlice S8x1x1 ![0, 1, 1] cal slices_S8x3x4_S8x1x1_0_1_1

/-- The second calibration value. -/
def centre (cal : FVec Ideal S8x3x4 .f32) : FVec Ideal S8x1x1 .f32 :=
  extractStridedSlice S8x1x1 ![0, 1, 2] cal slices_S8x3x4_S8x1x1_0_1_2

/-- The depth penalty. -/
def depth (cal : FVec Ideal S8x3x4 .f32) : FVec Ideal S8x24x80 .f32 :=
  depthOf (sitofp .f32 (iotaInDim S8x24x80 32 1)) (focal cal) (centre cal)

/-- The combined map, the first result. -/
def combined (x : FVec Ideal S8x1024x24x80 .f32) (cal : FVec Ideal S8x3x4 .f32) (w1 : FVec Ideal S256x1024x3x3 .f32)
    (b1 gw gb : FVec Ideal S256 .f32) (w2 : FVec Ideal S1x256x1x1 .f32) (b2 : FVec Ideal S1 .f32) : FVec Ideal S8x24x80 .f32 :=
  addf (depth cal) (heat (normed (hid (windows x) w1 b1) (variance (hid (windows x) w1 b1)) gw gb) w2 b2)

/-- The tokens' scores: the means of the combined map over the tiles. -/
def scores (z : FVec Ideal S8x24x80 .f32) : FVec Ideal S8x120 .f32 :=
  shapeCast S8x120 (Host.divf (Host.reduceAdd (shapeCast S8x6x4x20x4 z shapeCasts_S8x24x80_S8x6x4x20x4)
    (constant S_ .f32 0x00000000#32) reducesTo_S8x6x4x20x4_S8x6x20_d2_4 h_S_)
    (broadcastInDim S8x6x20 ![] bcast_S_S8x6x20 (constant S_ .f32 0x41800000#32))) shapeCasts_S8x6x20_S8x120

/-- The tokens, the third result: the means of the features over the tiles. -/
def tokens (x : FVec Ideal S8x1024x24x80 .f32) : FVec Ideal S8x120x1024 .f32 :=
  transpose S8x120x1024 [0, 2, 1] (shapeCast S8x1024x120 (Host.divf
    (Host.reduceAdd (shapeCast S8x1024x6x4x20x4 x shapeCasts_S8x1024x24x80_S8x1024x6x4x20x4)
      (constant S_ .f32 0x00000000#32) reducesTo_S8x1024x6x4x20x4_S8x1024x6x20_d3_5 h_S_)
    (broadcastInDim S8x1024x6x20 ![] bcast_S_S8x1024x6x20 (constant S_ .f32 0x41800000#32)))
    shapeCasts_S8x1024x6x20_S8x1024x120) transposes_S8x1024x120_S8x120x1024_0_2_1

/-- The tokens of the hundred highest scores, the second result. -/
def centers (t : FVec Ideal S8x120x1024 .f32) (s : FVec Ideal S8x120 .f32) : FVec Ideal S8x100x1024 .f32 :=
  Host.gather gather_S8x120x1024_S8x100x1_S8x100x1024_2_1_0_0_1_2_111024 t
    (broadcastInDim S8x100x1 ![0, 1] bcast_S8x100_S8x100x1_0_1
      (Host.topK S8x100 1 (FloatOps.cmpfTotal .gt) s sliceFits_S8x120_S8x100).2)

/-- The tokens' positions, the fourth result. -/
def positions : IVec S8x120x2 32 :=
  shapeCast S8x120x2 (addi (muli (broadcastInDim S8x6x20x2 ![] bcast_S_S8x6x20x2 (constantI S_ 32 4#32))
    (concatenate S8x6x20x2 3 [⟨S8x6x20x1, iotaInDim S8x6x20x1 32 1⟩, ⟨S8x6x20x1, iotaInDim S8x6x20x1 32 2⟩]
      concatenates_S8x6x20x1_S8x6x20x1_S8x6x20x2_d3))
    (broadcastInDim S8x6x20x2 ![] bcast_S_S8x6x20x2 (constantI S_ 32 2#32))) shapeCasts_S8x6x20x2_S8x120x2

variable (m : (ℓ : Loc nD τ sig) → Buf (Elt Ideal) ℓ) (c : Dev nD)

/-- The combined map of the arguments in memory. -/
abbrev combinedAt : FVec Ideal S8x24x80 .f32 :=
  combined (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The reference's first result is `combined` of its arguments. -/
theorem combined_eq : Cert.ReferenceIdeal.Value.res_main_v73 m c = combinedAt m c := by
  unfold Cert.ReferenceIdeal.Value.res_main_v73
  rfl

/-- The reference's second result is `centers` of its tokens and of its scores. -/
theorem centers_eq : Cert.ReferenceIdeal.Value.res_main_v93 m c
    = centers (tokens (m ((c.tc : Thread nD τ).loc main_arg0))) (scores (combinedAt m c)) := by
  unfold Cert.ReferenceIdeal.Value.res_main_v93
  rfl

end Cert.Spec

end
-- ==== Proof.Index.lean ====
/-
  The reference's named steps at an index.
-/
module

public import proofs.«01_k».proof.Proof.Spec
public import proofs.«01_k».proof.Proof.Sel
public import Idealize.ShloMosaic.Lib.ValueIdxRank6
public import Idealize.ShloMosaic.Lib.Pointwise

@[expose] public section

set_option maxRecDepth 16384

noncomputable section

namespace Cert.Spec

open Cert.ReferenceIdeal Cert.ReferenceIdeal.Gen Idealize.ShloMosaic Idealize.ShloMosaic.TcCoe

/-- The bordered image at row `i`, column `j`. -/
def pix (x : FVec Ideal S8x1024x24x80 .f32) (b : Fin 8) (c : Fin 1024) (i j : ℕ) : EReal :=
  if h : 1 ≤ i ∧ i < 25 ∧ 1 ≤ j ∧ j < 81 then x (ix4 b c ⟨i - 1, by omega⟩ ⟨j - 1, by omega⟩) else 0

/-- The padded images at an index: the pixel, or zero on the border. -/
theorem padded_apply (x : FVec Ideal S8x1024x24x80 .f32) (b : Fin 8) (c : Fin 1024) (i : Fin 26) (j : Fin 82) :
    padded x (ix5 0 b c i j) = pix x b c i.val j.val := by
  pointwise [padded]
  have z : (FloatOps.sitofp (F := Ideal) .f32 0#32 : EReal) = 0 := by
    show (FloatOps.sitofp (F := Ideal) .f32 (BitVec.ofNat 32 0) : EReal) = 0
    rw [Cert.KSel.sitofp_nat 0 (by norm_num)]
    exact Nat.cast_zero
  unfold pix
  split
  · rename_i h1
    split
    · rfl
    · rename_i h2
      omega
  · rename_i h1
    split
    · rename_i h2
      omega
    · exact z

/-- The bordered image at equal rows and columns. -/
theorem padded_at (x : FVec Ideal S8x1024x24x80 .f32) (b : Fin 8) (c : Fin 1024) {i j i' j' : ℕ} (hi : i < 26) (hj : j < 82)
    (ei : i = i') (ej : j = j') : padded x (ix5 0 b c ⟨i, hi⟩ ⟨j, hj⟩) = pix x b c i' j' := by
  subst ei ej
  exact padded_apply x b c _ _

/-- Window `k` at row `i`, column `j` is the bordered image `k / 3` rows lower and `k % 3` columns to the right. -/
theorem windows_apply (x : FVec Ideal S8x1024x24x80 .f32) (k : Fin 9) (b : Fin 8) (c : Fin 1024) (i : Fin 24) (j : Fin 80) :
    windows x (ix5 k b c i j) = pix x b c (i.val + k.val / 3) (j.val + k.val % 3) := by
  fin_cases k <;> pointwise [windows, stack] <;> exact padded_at x b c _ _ (by first | rfl | omega) (by first | rfl | omega)

/-- The convolution at channel `g * 8 + e` of image `n`. -/
theorem hid_apply (xw : FVec Ideal S9x8x1024x24x80 .f32) (w : FVec Ideal S256x1024x3x3 .f32) (b : FVec Ideal S256 .f32)
    (n : Fin 8) (g : Fin 32) (e : Fin 8) (i : Fin 24) (j : Fin 80) :
    hid xw w b (ix5 n g e i j) = (∑ c : Fin 1024, ∑ k : Fin 9,
      w (ix4 ⟨g.val * 8 + e.val, by omega⟩ c ⟨k.val / 3, by omega⟩ ⟨k.val % 3, by omega⟩) * xw (ix5 k n c i j))
        + b (ix1 ⟨g.val * 8 + e.val, by omega⟩) := by
  pointwise [hid]

/-- A group's mean, over its 8 channels and all pixels. -/
theorem mean_apply (h : FVec Ideal S8x32x8x24x80 .f32) (n : Fin 8) (g : Fin 32) :
    mean h (ix5 n g 0 0 0)
      = Ideal.div (∑ e : Fin 8, ∑ i : Fin 24, ∑ j : Fin 80, h (ix5 n g e i j)) (Ideal.ofBits .f32 0x46700000#32) := by
  pointwise [mean]

/-- A centred value is the value less its group's mean. -/
theorem centred_apply (h : FVec Ideal S8x32x8x24x80 .f32) (n : Fin 8) (g : Fin 32) (e : Fin 8) (i : Fin 24) (j : Fin 80) :
    centred h (ix5 n g e i j) = h (ix5 n g e i j) - mean h (ix5 n g 0 0 0) := by
  pointwise [centred]

/-- A group's variance is the mean of the squares of its centred values. -/
theorem variance_apply (h : FVec Ideal S8x32x8x24x80 .f32) (n : Fin 8) (g : Fin 32) :
    variance h (ix5 n g 0 0 0) = Ideal.div (∑ e : Fin 8, ∑ i : Fin 24, ∑ j : Fin 80,
      (h (ix5 n g e i j) - mean h (ix5 n g 0 0 0)) * (h (ix5 n g e i j) - mean h (ix5 n g 0 0 0)))
      (Ideal.ofBits .f32 0x46700000#32) := by
  refine (mean_apply _ n g).trans ?_
  refine congrArg (Ideal.div · _) (Finset.sum_congr rfl fun e _ => Finset.sum_congr rfl fun i _ => Finset.sum_congr rfl fun j _ => ?_)
  exact congrArg₂ (· * ·) (centred_apply h n g e i j) (centred_apply h n g e i j)

/-- A normalised value: the centred value over the square root of the variance and a small constant, scaled and
shifted by channel. -/
theorem normed_apply (h : FVec Ideal S8x32x8x24x80 .f32) (v : FVec Ideal S8x32x1x1x1 .f32) (w b : FVec Ideal S256 .f32)
    (n : Fin 8) (o : Fin 256) (i : Fin 24) (j : Fin 80) :
    normed h v w b (ix4 n o i j) = Ideal.div (centred h (ix5 n ⟨o.val / 8, by omega⟩ ⟨o.val % 8, by omega⟩ i j))
      (Ideal.sqrt (v (ix5 n ⟨o.val / 8, by omega⟩ 0 0 0) + Ideal.ofBits .f32 0x3727C5AC#32)) * w (ix1 o) + b (ix1 o) := by
  pointwise [normed]

/-- The heat of a pixel: the logistic of the weighted sum, over the channels, of the positive parts, and the bias. -/
theorem heat_apply (z : FVec Ideal S8x256x24x80 .f32) (w2 : FVec Ideal S1x256x1x1 .f32) (b2 : FVec Ideal S1 .f32)
    (n : Fin 8) (i : Fin 24) (j : Fin 80) :
    heat z w2 b2 (ix3 n i j) = Ideal.div 1 (1 + Ideal.exp (-(∑ o : Fin 256, w2 (ix4 0 o 0 0) * max (z (ix4 n o i j)) 0
      + b2 (ix1 0)))) := by
  pointwise [heat]

/-- The depth penalty of a pixel, which depends on its row only. -/
theorem depth_apply (cal : FVec Ideal S8x3x4 .f32) (n : Fin 8) (i : Fin 24) (j : Fin 80) :
    depth cal (ix3 n i j) = -max (Ideal.div (Ideal.ofBits .f32 0x43FA0000#32 * (((i.val : ℕ) : EReal)
      - Ideal.div (Ideal.ofBits .f32 0x41C00000#32 * cal (ix3 n 1 2)) (Ideal.ofBits .f32 0x43BB8000#32)))
      (cal (ix3 n 1 1) * Ideal.ofBits .f32 0x41C00000#32)) 0 := by
  pointwise [depth, depthOf, focal, centre]
  rw [Cert.KSel.sitofp_nat i.val (by omega), EReal.coe_natCast]

/-- A sum over the rows and columns of a tile. -/
theorem tile_sum (v : FVec Ideal S8x1024x6x4x20x4 .f32) (n : Fin 8) (c : Fin 1024) (a : Fin 6) (b : Fin 20) :
    Ideal.hostReduceAdd reducesTo_S8x1024x6x4x20x4_S8x1024x6x20_d3_5 v 0 (ix4 n c a b)
      = ∑ p : Fin 4, ∑ q : Fin 4, v (ix6 n c a p b q) := by
  refine (zero_add _).trans ?_
  refine (Finset.sum_filter_eq_sum_of_fiber _ (fun k : Fin 4 × Fin 4 => (ix6 n c a k.1 b k.2 : S8x1024x6x4x20x4.Idx))
    (fun _ _ e => Prod.ext (congrFun e 3) (congrFun e 5)) (fun i => ?_) v).trans ?_
  · constructor
    · intro e
      refine ⟨(i 3, i 5), ?_⟩
      rw [eq_ix6 i]
      have h0 := congrFun e 0
      have h1 := congrFun e 1
      have h2 := congrFun e 2
      have h3 := congrFun e 3
      funext x
      match x with
      | ⟨0, _⟩ => exact h0.symm
      | ⟨1, _⟩ => exact h1.symm
      | ⟨2, _⟩ => exact h2.symm
      | ⟨3, _⟩ => rfl
      | ⟨4, _⟩ => exact h3.symm
      | ⟨5, _⟩ => rfl
    · rintro ⟨k, rfl⟩
      funext x
      match x with
      | ⟨0, _⟩ => rfl
      | ⟨1, _⟩ => rfl
      | ⟨2, _⟩ => rfl
      | ⟨3, _⟩ => rfl
  · simp only [Fintype.sum_prod_type]

/-- A token is the sum over its 4 by 4 tile, divided by 16. -/
theorem tokens_apply (x : FVec Ideal S8x1024x24x80 .f32) (n : Fin 8) (t : Fin 120) (c : Fin 1024) :
    tokens x (ix3 n t c) = Ideal.div (∑ p : Fin 4, ∑ q : Fin 4,
      x (ix4 n c ⟨t.val / 20 * 4 + p.val, by omega⟩ ⟨t.val % 20 * 4 + q.val, by omega⟩)) (Ideal.ofBits .f32 0x41800000#32) := by
  pointwise [tokens]
  rw [tile_sum]
  refine congrArg (Ideal.div · _) (Finset.sum_congr rfl fun p _ => Finset.sum_congr rfl fun q _ => ?_)
  refine shapeCast_apply x _ _ _ ?_
  rw [Shape.rowMajor_val_four, Shape.rowMajor_val_six]
  show ((n.val * 1024 + c.val) * 24 + (t.val / 20 * 4 + p.val)) * 80 + (t.val % 20 * 4 + q.val)
    = ((((n.val * 1024 + c.val) * 6 + t.val / 20) * 4 + p.val) * 20 + t.val % 20) * 4 + q.val
  omega

/-- The token of rank `k` among the scores of image `n`. -/
def rank (s : FVec Ideal S8x120 .f32) (n : Fin 8) (k : Fin 100) : Fin 120 :=
  sortedFrom (Cert.KSel.byKey fun j : Fin 120 => s (ix2 n j)) ⟨k.val, by omega⟩

/-- The index of an array of scores with its position replaced. -/
theorem along_apply (n : Fin 8) (a b : Fin 120) : Shape.Idx.along (ix2 n a : S8x120.Idx) (1 : Fin 2) b = ix2 n b := by
  funext x
  match x with
  | ⟨0, _⟩ => rfl
  | ⟨1, _⟩ => rfl

/-- A sort by score carries the values of `y` at the tokens of the row, in the scores' order. -/
theorem sort_apply (s : FVec Ideal S8x120 .f32) (y : IVec S8x120 32) (n : Fin 8) (a : Fin 120) :
    (Host.sort2 S8x120 1 (fun l r => FloatOps.cmpfTotal .gt l.1 r.1) s y).2 (ix2 n a)
      = y (ix2 n (sortedFrom (Cert.KSel.byKey fun j : Fin 120 => s (ix2 n j)) a)) := by
  have e : (fun l r : Fin 120 => FloatOps.cmpfTotal (F := Ideal) (φ := .f32) .gt
      (s (Shape.Idx.along (ix2 n a : S8x120.Idx) (1 : Fin 2) l)) (s (Shape.Idx.along (ix2 n a : S8x120.Idx) (1 : Fin 2) r)) == 1#1)
      = Cert.KSel.byKey fun j : Fin 120 => s (ix2 n j) := by
    funext l r
    rw [along_apply, along_apply]
    rfl
  rw [← e]
  unfold Host.sort2
  rw [dif_pos (by decide)]
  exact congrArg y (along_apply n a _)

/-- The scores' order of image `n`: rank `k`'s token. -/
theorem topK_apply (s : FVec Ideal S8x120 .f32) (n : Fin 8) (k : Fin 100) :
    (Host.topK S8x100 1 (FloatOps.cmpfTotal .gt) s sliceFits_S8x120_S8x100).2 (ix2 n k) = BitVec.ofNat 32 (rank s n k).val := by
  have slice : ∀ y : IVec S8x120 32, extractStridedSlice S8x100 (fun _ => 0) y sliceFits_S8x120_S8x100 (ix2 n k)
      = y (ix2 n ⟨k.val, by omega⟩) := by
    intro y
    pointwise
  have iota : ∀ r : Fin 120, (if hd : 1 < S8x120.rank then iotaInDim S8x120 32 ⟨1, hd⟩ (ix2 n r) else 0#32) = BitVec.ofNat 32 r.val := by
    intro r
    rw [dif_pos (by decide)]
    rfl
  unfold Host.topK rank
  exact (slice _).trans ((sort_apply s
    (fun i => if hd : 1 < S8x120.rank then iotaInDim S8x120 32 ⟨1, hd⟩ i else 0#32) n ⟨k.val, by omega⟩).trans (iota _))

/-- The word of a position below 120 reads back as the position. -/
theorem toInt_small (r : ℕ) (h : r < 120) : (BitVec.ofNat 32 r).toInt.toNat = r := by
  have : (BitVec.ofNat 32 r).toInt = r := by
    rw [BitVec.toInt_ofNat']
    simp [Int.bmod]
    omega
  rw [this, Int.toNat_natCast]

/-- The rows a gather of token rows reads. -/
theorem rows_apply (t : FVec Ideal S8x120x1024 .f32) (idx : IVec S8x100x1 32) (n : Fin 8) (k : Fin 100) (c : Fin 1024) :
    Host.gather gather_S8x120x1024_S8x100x1_S8x100x1024_2_1_0_0_1_2_111024 t idx (ix3 n k c)
      = t (ix3 n ⟨min (idx (ix3 n k 0)).toInt.toNat 119, by omega⟩ c) := by
  unfold Host.gather
  refine congrArg t (funext fun a => Fin.ext ?_)
  show GatherDims.start _ _ _ a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide), GatherDims.offCoord_eq_zero _ _ _ (by decide)]
    unfold GatherDims.batchCoord
    rw [dif_pos (by decide), Nat.zero_add, Nat.add_zero]
    rfl
  · rw [GatherDims.batchCoord_eq_zero _ _ _ (by decide), GatherDims.offCoord_eq_zero _ _ _ (by decide)]
    unfold GatherDims.start
    rw [dif_pos (by decide), Nat.add_zero]
    refine congrArg (fun i => min (BitVec.toInt (idx i)).toNat 119) (funext fun b => Fin.ext ?_)
    match b with
    | ⟨0, _⟩ => rfl
    | ⟨1, _⟩ => rfl
    | ⟨2, _⟩ => rfl
  · rw [GatherDims.batchCoord_eq_zero _ _ _ (by decide)]
    unfold GatherDims.start
    rw [dif_neg (by decide), Nat.zero_add]
    rfl

/-- The token of the `k`-th highest score. -/
theorem centers_apply (t : FVec Ideal S8x120x1024 .f32) (s : FVec Ideal S8x120 .f32)
    (n : Fin 8) (k : Fin 100) (c : Fin 1024) : centers t s (ix3 n k c) = t (ix3 n (rank s n k) c) := by
  unfold centers
  rw [rows_apply]
  refine congrArg t (congrArg (fun r => (ix3 n r c : S8x120x1024.Idx)) (Fin.ext ?_))
  show min (BitVec.toInt _).toNat 119 = (rank s n k).val
  rw [show broadcastInDim S8x100x1 ![0, 1] bcast_S8x100_S8x100x1_0_1
    (Host.topK S8x100 1 (FloatOps.cmpfTotal .gt) s sliceFits_S8x120_S8x100).2 (ix3 n k 0)
      = (Host.topK S8x100 1 (FloatOps.cmpfTotal .gt) s sliceFits_S8x120_S8x100).2 (ix2 n k) by pointwise,
    topK_apply, toInt_small _ (rank s n k).isLt]
  omega

end Cert.Spec

end
-- ==== Proof.Combine.lean ====
/-
  One image of the first pass. Given the blocks the pass loads for image `b` and finite arguments, the map it writes is
  the image's part of the reference's combined map, and the tokens it writes are the reference's.
-/
module

public import proofs.«01_k».proof.Proof.Norm
public import proofs.«01_k».proof.Proof.Tok
public import proofs.«01_k».proof.Proof.Index

@[expose] public section

set_option maxRecDepth 16384

noncomputable section

namespace Cert.KernelIdeal.Combine

open Cert.KernelIdeal Cert.KernelIdeal.Gen Idealize.ShloMosaic Cert.KernelIdeal.Conv

/-- The blocks of the first pass at image `b`, in terms of the arguments. -/
structure Blocks (b : Fin 8) (x : FVec Ideal S8x1024x24x80 .f32) (cal : FVec Ideal S8x3x4 .f32)
    (w1 : FVec Ideal S256x1024x3x3 .f32) (b1 gw gb : FVec Ideal S256 .f32) (w2 : FVec Ideal S1x256x1x1 .f32)
    (b2 : FVec Ideal S1 .f32) (x0 : Vec Ideal S1x2112x1024 .bf16) (x1 : Vec Ideal S9216x256 .bf16)
    (x2 x3 x4 x5 : Vec Ideal S1x256 .f32) (x6 : Vec Ideal S1x1 .f32) (x7 : Vec Ideal S1x1x2 .f32) : Prop where
  image : ∀ (r : Fin 2112) (c : Fin 1024), x0 (ix3 0 r c) = (if h : 96 ≤ r.val ∧ r.val < 2016 then
    x (ix4 b c ⟨(r.val - 96) / 80, by omega⟩ ⟨(r.val - 96) % 80, by omega⟩) else 0 : EReal)
  weight : ∀ (k : Fin 9216) (o : Fin 256), x1 (ix2 k o)
    = w1 (ix4 o ⟨k.val % 1024, by omega⟩ ⟨k.val / 3072, by omega⟩ ⟨k.val / 1024 % 3, by omega⟩)
  bias : ∀ o : Fin 256, x2 (ix2 0 o) = b1 (ix1 o)
  gain : ∀ o : Fin 256, x3 (ix2 0 o) = gw (ix1 o)
  offset : ∀ o : Fin 256, x4 (ix2 0 o) = gb (ix1 o)
  mix : ∀ o : Fin 256, x5 (ix2 0 o) = w2 (ix4 0 o 0 0)
  level : x6 (ix2 0 0) = b2 (ix1 0)
  focal : x7 (ix3 0 0 0) = cal (ix3 b 1 1)
  centre : x7 (ix3 0 0 1) = cal (ix3 b 1 2)

/-- A finite value. -/
def Finite (x : EReal) : Prop := ∃ r : ℝ, x = (r : EReal)

/-- A sum of finite values is finite. -/
theorem Finite.add {x y : EReal} (hx : Finite x) (hy : Finite y) : Finite (x + y) := by
  obtain ⟨r, rfl⟩ := hx
  obtain ⟨s, rfl⟩ := hy
  exact ⟨r + s, (EReal.coe_add r s).symm⟩

/-- A product of finite values is finite. -/
theorem Finite.mul {x y : EReal} (hx : Finite x) (hy : Finite y) : Finite (x * y) := by
  obtain ⟨r, rfl⟩ := hx
  obtain ⟨s, rfl⟩ := hy
  exact ⟨r * s, (EReal.coe_mul r s).symm⟩

/-- Zero is finite. -/
theorem Finite.zero : Finite 0 := ⟨0, EReal.coe_zero.symm⟩

/-- A finite sum of finite values is finite. -/
theorem Finite.sum {ι : Type*} [Fintype ι] (f : ι → EReal) (h : ∀ i, Finite (f i)) : Finite (∑ i, f i) := by
  choose r hr using h
  exact ⟨∑ i, r i, by rw [← Norm.sum_coe]; exact Finset.sum_congr rfl fun i _ => hr i⟩

/-- The pixels, tile row by tile row. -/
theorem pixel_tiles (f : ℕ → EReal) : ∑ n : Fin 1920, f n.val
    = ∑ a : Fin 6, ∑ p : Fin 4, ∑ c : Fin 20, ∑ q : Fin 4, f (((a.val * 4 + p.val) * 20 + c.val) * 4 + q.val) := by
  refine (Fin.sum_univ_tiles 480 4 rfl _).trans ?_
  refine (Fin.sum_univ_tiles 24 20 rfl _).trans ?_
  exact Fin.sum_univ_tiles 6 4 rfl _

/-- The literal 16 that the reference divides a tile's sum by. -/
theorem sixteen_eq : Ideal.ofBits .f32 0x41800000#32 = ((16 : ℝ) : EReal) := by
  simp [Ideal.ofBits, Ideal.ieee, -EReal.coe_mul]
  norm_num

/-- The literal 1/16 that the kernel's averaging matrices hold. -/
theorem sixteenth_eq : Ideal.ofBits .f32 0x3D800000#32 = ((1 / 16 : ℝ) : EReal) := by
  simp [Ideal.ofBits, Ideal.ieee, -EReal.coe_mul]
  norm_num

variable {b : Fin 8} {x : FVec Ideal S8x1024x24x80 .f32} {cal : FVec Ideal S8x3x4 .f32}
  {w1 : FVec Ideal S256x1024x3x3 .f32} {b1 gw gb : FVec Ideal S256 .f32} {w2 : FVec Ideal S1x256x1x1 .f32}
  {b2 : FVec Ideal S1 .f32} {x0 : Vec Ideal S1x2112x1024 .bf16} {x1 : Vec Ideal S9216x256 .bf16}
  {x2 x3 x4 x5 : Vec Ideal S1x256 .f32} {x6 : Vec Ideal S1x1 .f32} {x7 : Vec Ideal S1x1x2 .f32}
  (B : Blocks b x cal w1 b1 gw gb w2 b2 x0 x1 x2 x3 x4 x5 x6 x7)
  (fx : ∀ i, Finite (x i)) (fw : ∀ i, Finite (w1 i)) (fb : ∀ i, Finite (b1 i)) (fg : ∀ i, Finite (gw i))

include B

/-- A row of the padded image inside the image. -/
theorem row_in {m : ℕ} (i : Fin 24) (j : Fin 80) (hm : m = 96 + i.val * 80 + j.val) (c : Fin 1024) :
    rowOf x0 m c = x (ix4 b c i j) := by
  subst hm
  unfold rowOf
  rw [dif_pos (by omega), B.image, dif_pos (by dsimp only; omega)]
  exact congrArg₂ (fun p q => x (ix4 b c p q)) (Fin.ext (by dsimp only; omega)) (Fin.ext (by dsimp only; omega))

/-- A row of the padded image outside the image. -/
theorem row_out {m : ℕ} (hm : m < 96 ∨ 2016 ≤ m) (c : Fin 1024) : rowOf x0 m c = 0 := by
  unfold rowOf
  split
  · rw [B.image, dif_neg (by dsimp only; omega)]
  · rfl

/-- A masked row of the padded image is a pixel of the image with its border. -/
theorem tap_eq (i : Fin 24) (j : Fin 80) (k : Fin 9) (c : Fin 1024) :
    rowOf x0 (i.val * 80 + j.val + 15 + 80 * (k.val / 3) + k.val % 3) c * mask k (i.val * 80 + j.val)
      = Cert.Spec.pix x b c (i.val + k.val / 3) (j.val + k.val % 3) := by
  unfold mask Cert.Spec.pix
  by_cases h : k.val % 3 = 0 ∧ (i.val * 80 + j.val) % 80 = 0 ∨ k.val % 3 = 2 ∧ (i.val * 80 + j.val) % 80 = 79
  · rw [if_pos h, mul_zero, dif_neg (by omega)]
  · rw [if_neg h, mul_one]
    split
    · rename_i h1
      exact row_in B ⟨i.val + k.val / 3 - 1, by omega⟩ ⟨j.val + k.val % 3 - 1, by omega⟩ (by dsimp only; omega) c
    · rename_i h1
      exact row_out B (by omega) c

/-- The kernel's convolution is the reference's. -/
theorem hidden_eq (g : Fin 32) (e : Fin 8) (i : Fin 24) (j : Fin 80) {n : ℕ} (hn : n = i.val * 80 + j.val) {o : Fin 256}
    (ho : o.val = g.val * 8 + e.val) :
    hidden x0 x1 x2 n o = Cert.Spec.hid (Cert.Spec.windows x) w1 b1 (ix5 b g e i j) := by
  subst hn
  rw [show o = ⟨g.val * 8 + e.val, by omega⟩ from Fin.ext ho, Cert.Spec.hid_apply, Finset.sum_comm]
  unfold Conv.hidden
  refine congrArg₂ (· + ·) (Finset.sum_congr rfl fun k _ => Finset.sum_congr rfl fun c _ => ?_) (B.bias _)
  rw [tap_eq B, B.weight, Cert.Spec.windows_apply, mul_comm]
  refine congrArg (· * _) (congrArg w1 ?_)
  have e1 : (⟨(k.val * 1024 + c.val) % 1024, by omega⟩ : Fin 1024) = c := Fin.ext (by dsimp only; omega)
  have e2 : (⟨(k.val * 1024 + c.val) / 3072, by omega⟩ : Fin 3) = ⟨k.val / 3, by omega⟩ := Fin.ext (by dsimp only; omega)
  have e3 : (⟨(k.val * 1024 + c.val) / 1024 % 3, by omega⟩ : Fin 3) = ⟨k.val % 3, by omega⟩ := Fin.ext (by dsimp only; omega)
  exact congr (congr (congrArg (ix4 _) e1) e2) e3

include fx fw fb in
/-- The convolution of finite arguments is finite. -/
theorem hidden_finite (n : ℕ) (o : Fin 256) : Finite (hidden x0 x1 x2 n o) := by
  unfold Conv.hidden
  refine (Finite.sum _ fun k => Finite.sum _ fun c => (Finite.mul (Finite.mul ?_ ?_) ?_)).add ?_
  · unfold rowOf
    split
    · rw [B.image]
      split
      · exact fx _
      · exact Finite.zero
    · exact Finite.zero
  · unfold mask
    split
    · exact Finite.zero
    · exact ⟨1, EReal.coe_one.symm⟩
  · rw [B.weight]
    exact fw _
  · rw [B.bias]
    exact fb _

include fx fw fb fg in
/-- The kernel's folded normalisation is the reference's. -/
theorem normed_eq (i : Fin 24) (j : Fin 80) (o : Fin 256) :
    hidden x0 x1 x2 (80 * i.val + j.val) o * Heat.scale (hidden x0 x1 x2) (fun a => x3 (ix2 0 a)) o
        + Heat.shift (hidden x0 x1 x2) (fun a => x3 (ix2 0 a)) (fun a => x4 (ix2 0 a)) o
      = Cert.Spec.normed (Cert.Spec.hid (Cert.Spec.windows x) w1 b1)
          (Cert.Spec.variance (Cert.Spec.hid (Cert.Spec.windows x) w1 b1)) gw gb (ix4 b o i j) := by
  choose r hr using hidden_finite B fx fw fb
  obtain ⟨v, hv⟩ := fg (ix1 o)
  have H : ∀ (e : Fin 8) (p : Fin 24) (q : Fin 80), hidden x0 x1 x2 (p.val * 80 + q.val) (Norm.mate o e)
      = Cert.Spec.hid (Cert.Spec.windows x) w1 b1 (ix5 b ⟨o.val / 8, by omega⟩ e p q) := fun e p q =>
    hidden_eq B ⟨o.val / 8, by omega⟩ e p q rfl rfl
  rw [Norm.folded_eq _ r hr _ _ o v ((B.gain o).trans hv), Cert.Spec.normed_apply, Cert.Spec.centred_apply,
    Cert.Spec.variance_apply, Cert.Spec.mean_apply,
    hidden_eq B ⟨o.val / 8, by omega⟩ ⟨o.val % 8, by omega⟩ i j (by omega) (by dsimp only; omega), B.gain, B.offset]
  unfold Norm.plain Norm.mean
  simp only [H]

include fx fw fb fg in
/-- The map the kernel writes for image `b`. -/
theorem combined_eq (i : Fin 24) (j : Fin 80) :
    out0_8 x0 x1 x2 x3 x4 x5 x6 x7 (ix3 0 i j) = Cert.Spec.combined x cal w1 b1 gw gb w2 b2 (ix3 b i j) := by
  rw [Heat.out_apply]
  show _ = Cert.Spec.depth cal (ix3 b i j) + Cert.Spec.heat _ w2 b2 (ix3 b i j)
  rw [Cert.Spec.depth_apply, Cert.Spec.heat_apply]
  unfold Heat.heat
  rw [B.focal, B.centre, B.level, sub_eq_add_neg, zero_add, show (80 * i.val + j.val) / 80 = i.val by omega]
  refine congrArg₂ (fun u v : EReal => u + v) rfl ?_
  show Ideal.div 1 (1 + Ideal.exp (-_)) = _
  refine congrArg (fun z : EReal => Ideal.div 1 (1 + Ideal.exp (-(z + b2 (ix1 0))))) (Finset.sum_congr rfl fun o _ => ?_)
  rw [normed_eq B fx fw fb fg]
  exact (congrArg (fun z : EReal => _ * z) (B.mix o)).trans (mul_comm _ _)

include fx in
/-- The tokens the kernel writes for image `b`. -/
theorem tokens_eq (t : Fin 120) (c : Fin 1024) :
    out0_9 x0 x1 x2 x3 x4 x5 x6 x7 (ix3 0 t c) = Cert.Spec.tokens x (ix3 b t c) := by
  rw [Tok.out_apply, Cert.Spec.tokens_apply, sixteen_eq, Ideal.div_coe (by norm_num)]
  unfold Tok.tokens
  rw [sixteenth_eq, pixel_tiles fun n => (if Words.token n = t.val then ((1 / 16 : ℝ) : EReal) else 0) * rowOf x0 (96 + n) c]
  rw [Finset.sum_eq_single (⟨t.val / 20, by omega⟩ : Fin 6)]
  · choose r hr using fx
    have e : ∀ p q : Fin 4, rowOf x0 (96 + (((t.val / 20 * 4 + p.val) * 20 + t.val % 20) * 4 + q.val)) c
        = (r (ix4 b c ⟨t.val / 20 * 4 + p.val, by omega⟩ ⟨t.val % 20 * 4 + q.val, by omega⟩) : EReal) := fun p q =>
      (row_in B ⟨t.val / 20 * 4 + p.val, by omega⟩ ⟨t.val % 20 * 4 + q.val, by omega⟩ (by dsimp only; omega) c).trans (hr _)
    have s : ∀ p : Fin 4, (∑ d : Fin 20, ∑ q : Fin 4, (if Words.token (((t.val / 20 * 4 + p.val) * 20 + d.val) * 4 + q.val) = t.val
        then ((1 / 16 : ℝ) : EReal) else 0) * rowOf x0 (96 + (((t.val / 20 * 4 + p.val) * 20 + d.val) * 4 + q.val)) c)
        = ∑ q : Fin 4, ((1 / 16 : ℝ) : EReal) * (r (ix4 b c ⟨t.val / 20 * 4 + p.val, by omega⟩ ⟨t.val % 20 * 4 + q.val, by omega⟩) : EReal) := by
      intro p
      rw [Finset.sum_eq_single (⟨t.val % 20, by omega⟩ : Fin 20)]
      · refine Finset.sum_congr rfl fun q _ => ?_
        rw [if_pos (by unfold Words.token; dsimp only; omega)]
        exact congrArg (_ * ·) (e p q)
      · intro d _ hd
        refine Finset.sum_eq_zero fun q _ => ?_
        rw [if_neg (fun h => hd (Fin.ext (by unfold Words.token at h; dsimp only at h ⊢; omega))), zero_mul]
      · exact fun h => absurd (Finset.mem_univ _) h
    refine (Finset.sum_congr rfl fun p _ => s p).trans ?_
    simp only [hr, ← EReal.coe_mul, Norm.sum_coe, EReal.coe_eq_coe_iff]
    simp only [Finset.sum_mul]
    exact Finset.sum_congr rfl fun p _ => Finset.sum_congr rfl fun q _ => mul_comm _ _
  · intro a _ ha
    refine Finset.sum_eq_zero fun p _ => Finset.sum_eq_zero fun d _ => Finset.sum_eq_zero fun q _ => ?_
    rw [if_neg (fun h => ha (Fin.ext (by unfold Words.token at h; dsimp only at h ⊢; omega))), zero_mul]
  · exact fun h => absurd (Finset.mem_univ _) h

end Cert.KernelIdeal.Combine

end
-- ==== Proof.Finite.lean ====
/-
  What the precondition says: every element of the features, of the first convolution's weight and bias and of the
  normalisation's gain is a real number.
-/
module

public import proofs.«01_k».proof.Defs
public import proofs.«01_k».proof.Proof.Combine
public import Idealize.ShloMosaic.Lib.ReduceAll

@[expose] public section

set_option maxRecDepth 16384

namespace Cert.Pre_finite

open Idealize.ShloMosaic Cert.KernelIdeal.Combine

/-- The side conditions of the precondition. -/
theorem facts : Facts where
  bcast_S_S8x1024x24x80 := by decide
  reducesTo_S8x1024x24x80_S_d0_1_2_3 := by decide
  h_S_ := by decide
  bcast_S_S256x1024x3x3 := by decide
  reducesTo_S256x1024x3x3_S_d0_1_2_3 := by decide
  bcast_S_S256 := by decide
  reducesTo_S256_S_d0 := by decide

/-- The infinite word. -/
theorem infinity : Ideal.ofBits .f32 0x7F800000#32 = (⊤ : EReal) := by
  simp [Ideal.ofBits, Ideal.ieee]

/-- A value whose absolute value is below infinity is a real number. -/
theorem finite_of_lt (x : EReal) (h : max x (-x) < ⊤) : Finite x := by
  induction x with
  | bot => exact absurd h (by simp)
  | coe r => exact ⟨r, rfl⟩
  | top => exact absurd h (by simp)

/-- An array all of whose absolute values compare below infinity is finite. -/
theorem finite_of_all {s : Shape} {axes : List (Fin s.rank)} (x : FVec Ideal s .f32) (hb : S_.BroadcastsInDim s (![] : Fin 0 → Fin s.rank))
    (hr : s.ReducesTo axes S_) (hn : 0 < S_.numel) (j : S_.Idx)
    (h : Host.reduce IntOp.andi (cmpf .olt (Host.absf x) (broadcastInDim s ![] hb (constant S_ .f32 0x7F800000#32))) (constantI S_ 1 1#1) hr hn j = 1#1)
    (i : s.Idx) : Finite (x i) := by
  have e : Ideal.cmp .olt (max (x i) (-(x i))) (Ideal.ofBits .f32 0x7F800000#32) = 1#1 :=
    Host.reduce_andi_all _ _ hr hn j h i
  rw [infinity] at e
  refine finite_of_lt (x i) ?_
  by_contra hlt
  simp [Ideal.cmp, hlt] at e

/-- A conjunction of two one-bit words that is one has both one. -/
theorem both {a b : BitVec 1} (h : a &&& b = 1#1) : a = 1#1 ∧ b = 1#1 := by
  revert a b
  decide

/-- What the precondition says of its arguments. -/
theorem finite (x : FVec Ideal S8x1024x24x80 .f32) (cal : FVec Ideal S8x3x4 .f32) (w1 : FVec Ideal S256x1024x3x3 .f32)
    (b1 gw gb : FVec Ideal S256 .f32) (w2 : FVec Ideal S1x256x1x1 .f32) (b2 : FVec Ideal S1 .f32)
    (h : (@fn facts Ideal _ x cal w1 b1 gw gb w2 b2) = fun _ => 1#1) :
    (∀ i, Finite (x i)) ∧ (∀ i, Finite (w1 i)) ∧ (∀ i, Finite (b1 i)) ∧ ∀ i, Finite (gw i) := by
  have h0 := congrFun h (fun a => a.elim0)
  obtain ⟨h1, hg⟩ := both h0
  obtain ⟨h2, hb⟩ := both h1
  obtain ⟨hx, hw⟩ := both h2
  exact ⟨finite_of_all x _ _ _ _ hx, finite_of_all w1 _ _ _ _ hw, finite_of_all b1 _ _ _ _ hb, finite_of_all gw _ _ _ _ hg⟩

end Cert.Pre_finite

end
-- ==== Proof.Entry.lean ====
/-
  The blocks the first pass is given, at an index, in terms of the arguments.
-/
module

public import proofs.«01_k».proof.Proof.Gen.KernelIdeal.Frame
public import proofs.«01_k».proof.Proof.Sel
public import Idealize.ShloMosaic.Lib.StableHlo.RunRead
public import Idealize.ShloMosaic.Lib.Pointwise

@[expose] public section

set_option maxRecDepth 16384

noncomputable section

namespace Cert.KernelIdeal.Entry

open Cert.KernelIdeal Cert.KernelIdeal.Gen Idealize.ShloMosaic Idealize.ShloMosaic.TcCoe

variable (V : Valuation τ sig (Elt Ideal))

/-- Row `96 + n` of image `b` holds pixel `n`; the 96 rows before and after the image are zero. -/
theorem image_read (b : Fin 8) (r : Fin 2112) (c : Fin 1024) :
    (StableHlo.after hostOps0 V (Proc.devRef .tc main_call0_v3) : FVec Ideal S8x2112x1024 .bf16) (ix3 b r c)
      = (if h : 96 ≤ r.val ∧ r.val < 2016 then
          (V (Proc.devRef .tc main_arg0) : FVec Ideal S8x1024x24x80 .f32) (ix4 b c ⟨(r.val - 96) / 80, by omega⟩ ⟨(r.val - 96) % 80, by omega⟩)
        else 0 : EReal) := by
  after_reads_simp
  simp only [StableHlo.TRef.toBuf, StableHlo.TRef.ofBuf, cast_eq]
  pointwise
  have z : (FloatOps.sitofp (F := Ideal) .bf16 0#32 : EReal) = 0 := by
    show (FloatOps.sitofp (F := Ideal) .f32 (BitVec.ofNat 32 0) : EReal) = 0
    rw [Cert.KSel.sitofp_nat 0 (by norm_num)]
    exact Nat.cast_zero
  split
  · rename_i h1
    split
    · rfl
    · rename_i h2
      omega
  · rename_i h1
    split
    · rename_i h2
      omega
    · exact z

/-- The weight matrix's row `k * 1024 + c` holds tap `k` of channel `c`. -/
theorem weight_read (k : Fin 9216) (o : Fin 256) :
    (StableHlo.after hostOps0 V (Proc.devRef .tc main_call0_v6) : FVec Ideal S9216x256 .bf16) (ix2 k o)
      = (V (Proc.devRef .tc main_arg2) : FVec Ideal S256x1024x3x3 .f32)
          (ix4 o ⟨k.val % 1024, by omega⟩ ⟨k.val / 3072, by omega⟩ ⟨k.val / 1024 % 3, by omega⟩) := by
  after_reads_simp
  simp only [StableHlo.TRef.toBuf, StableHlo.TRef.ofBuf, cast_eq]
  pointwise

/-- Two columns side by side. -/
def pair (u v : FVec Ideal S8x1 .f32) : FVec Ideal S8x2 .f32 :=
  concatenate S8x2 1 [⟨S8x1, u⟩, ⟨S8x1, v⟩] concatenates_S8x1_S8x1_S8x2_d1

/-- One calibration entry of every image, as a column. -/
def entries (u : FVec Ideal S8x1x1 .f32) : FVec Ideal S8x1 .f32 :=
  broadcastInDim S8x1 ![0] bcast_S8_S8x1_0 (shapeCast S8 u shapeCasts_S8x1x1_S8)

/-- The calibration block holds two entries of each image's matrix. -/
theorem calibration_read :
    (StableHlo.after hostOps0 V (Proc.devRef .tc main_call0_v14) : FVec Ideal S8x1x2 .f32)
      = shapeCast S8x1x2 (pair
          (entries (extractStridedSlice S8x1x1 ![0, 1, 1] (V (Proc.devRef .tc main_arg1)) slices_S8x3x4_S8x1x1_0_1_1))
          (entries (extractStridedSlice S8x1x1 ![0, 1, 2] (V (Proc.devRef .tc main_arg1)) slices_S8x3x4_S8x1x1_0_1_2)))
          shapeCasts_S8x2_S8x1x2 := by
  after_reads_simp
  refine congrArg (fun z => shapeCast S8x1x2 z shapeCasts_S8x2_S8x1x2) (congrArg₂ pair ?_ ?_)
  · after_reads_simp
    rfl
  · after_reads_simp
    rfl

/-- The first calibration value the kernel receives for image `b` is `calibs[b, 1, 1]`. -/
theorem focal_read (b : Fin 8) :
    (StableHlo.after hostOps0 V (Proc.devRef .tc main_call0_v14) : FVec Ideal S8x1x2 .f32) (ix3 b 0 0)
      = (V (Proc.devRef .tc main_arg1) : FVec Ideal S8x3x4 .f32) (ix3 b 1 1) := by
  rw [calibration_read]
  pointwise [pair, entries]

/-- The second is `calibs[b, 1, 2]`. -/
theorem centre_read (b : Fin 8) :
    (StableHlo.after hostOps0 V (Proc.devRef .tc main_call0_v14) : FVec Ideal S8x1x2 .f32) (ix3 b 0 1)
      = (V (Proc.devRef .tc main_arg1) : FVec Ideal S8x3x4 .f32) (ix3 b 1 2) := by
  rw [calibration_read]
  pointwise [pair, entries]

/-- The row of biases holds the first convolution's biases. -/
theorem bias_read (o : Fin 256) :
    (StableHlo.after hostOps0 V (Proc.devRef .tc main_call0_v15) : FVec Ideal S1x256 .f32) (ix2 0 o)
      = (V (Proc.devRef .tc main_arg3) : FVec Ideal S256 .f32) (ix1 o) := by
  after_reads_simp
  pointwise

/-- The row of factors holds the normalisation's factors. -/
theorem gain_read (o : Fin 256) :
    (StableHlo.after hostOps0 V (Proc.devRef .tc main_call0_v16) : FVec Ideal S1x256 .f32) (ix2 0 o)
      = (V (Proc.devRef .tc main_arg4) : FVec Ideal S256 .f32) (ix1 o) := by
  after_reads_simp
  pointwise

/-- The row of summands holds the normalisation's summands. -/
theorem offset_read (o : Fin 256) :
    (StableHlo.after hostOps0 V (Proc.devRef .tc main_call0_v17) : FVec Ideal S1x256 .f32) (ix2 0 o)
      = (V (Proc.devRef .tc main_arg5) : FVec Ideal S256 .f32) (ix1 o) := by
  after_reads_simp
  pointwise

/-- The row of weights holds the second convolution's weights. -/
theorem mix_read (o : Fin 256) :
    (StableHlo.after hostOps0 V (Proc.devRef .tc main_call0_v18) : FVec Ideal S1x256 .f32) (ix2 0 o)
      = (V (Proc.devRef .tc main_arg6) : FVec Ideal S1x256x1x1 .f32) (ix4 0 o 0 0) := by
  after_reads_simp
  pointwise

/-- The one remaining number is the second convolution's bias. -/
theorem level_read :
    (StableHlo.after hostOps0 V (Proc.devRef .tc main_call0_v19) : FVec Ideal S1x1 .f32) (ix2 0 0)
      = (V (Proc.devRef .tc main_arg7) : FVec Ideal S1 .f32) (ix1 0) := by
  after_reads_simp
  pointwise

end Cert.KernelIdeal.Entry

end
-- ==== Proof.First.lean ====
/-
  The first pass over the whole grid: the blocks each of its eight points loads, in terms of the arguments, and the two
  arrays the pass leaves, which are the combined map and the tokens.
-/
module

public import proofs.«01_k».proof.Proof.Combine
public import proofs.«01_k».proof.Proof.Entry
public import Idealize.ShloMosaic.Lib.Pipeline.ValueKit

@[expose] public section

set_option maxRecDepth 16384

noncomputable section

namespace Cert.KernelIdeal.First

open Cert.KernelIdeal Cert.KernelIdeal.Gen Idealize.ShloMosaic Idealize.ShloMosaic.TcCoe
open Idealize.ShloMosaic.Pipeline (Dat)

/-- The image point `t` works on. -/
def image (t : Fin cfg0.N) : Fin 8 := ⟨t.val, t.isLt.trans_eq (by decide +kernel)⟩

/-- The block every window holds at point `t`: the image's, or the whole array. -/
theorem places : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ win0_9.index t = ![t.val, 0, 0] :=
  (by decide +kernel : ∀ t : Fin grid0.N, _)

section Reads
variable (U : (c : Dev nD) → (b : Ref sig .tc) → Buf (Elt Ideal) ((c : Thread nD τ).loc b)) (c : Dev nD) (t : Fin cfg0.N)

/-- Point `t` reads the padded pixels of its own image. -/
theorem image_block (r : Fin 2112) (k : Fin 1024) :
    iblk0 U c 0 t (ix3 0 r k) = (U c main_call0_v3 : FVec Ideal S8x2112x1024 .bf16) (ix3 (image t) r k) := by
  blk_ext [iblk0, image, places t]

/-- Every point reads all the weights of the first convolution. -/
theorem weight_block (k : Fin 9216) (o : Fin 256) :
    iblk0 U c 1 t (ix2 k o) = (U c main_call0_v6 : FVec Ideal S9216x256 .bf16) (ix2 k o) := by
  blk_ext [iblk0, places t]

/-- Every point reads the row of biases. -/
theorem bias_block (o : Fin 256) : iblk0 U c 2 t (ix2 0 o) = (U c main_call0_v15 : FVec Ideal S1x256 .f32) (ix2 0 o) := by
  blk_ext [iblk0, places t]

/-- Every point reads the row of the normalisation's factors. -/
theorem gain_block (o : Fin 256) : iblk0 U c 3 t (ix2 0 o) = (U c main_call0_v16 : FVec Ideal S1x256 .f32) (ix2 0 o) := by
  blk_ext [iblk0, places t]

/-- Every point reads the row of the normalisation's summands. -/
theorem offset_block (o : Fin 256) : iblk0 U c 4 t (ix2 0 o) = (U c main_call0_v17 : FVec Ideal S1x256 .f32) (ix2 0 o) := by
  blk_ext [iblk0, places t]

/-- Every point reads the row of the second convolution's weights. -/
theorem mix_block (o : Fin 256) : iblk0 U c 5 t (ix2 0 o) = (U c main_call0_v18 : FVec Ideal S1x256 .f32) (ix2 0 o) := by
  blk_ext [iblk0, places t]

/-- Every point reads the second convolution's bias. -/
theorem level_block : iblk0 U c 6 t (ix2 0 0) = (U c main_call0_v19 : FVec Ideal S1x1 .f32) (ix2 0 0) := by
  blk_ext [iblk0, places t]

/-- Point `t` reads the two calibration values of its own image. -/
theorem calibration_block (k : Fin 2) :
    iblk0 U c 7 t (ix3 0 0 k) = (U c main_call0_v14 : FVec Ideal S8x1x2 .f32) (ix3 (image t) 0 k) := by
  blk_ext [iblk0, image, places t]

end Reads

variable (m : (ℓ : Loc nD τ sig) → Buf (Elt Ideal) ℓ) (ρ : Dev nD → PrngReg) (c : Dev nD)

/-- Every point loads the blocks of its image. -/
theorem blocks (t : Fin cfg0.N) : Combine.Blocks (image t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (iblk0 (V1 m ρ) c 0 t) (iblk0 (V1 m ρ) c 1 t) (iblk0 (V1 m ρ) c 2 t) (iblk0 (V1 m ρ) c 3 t)
    (iblk0 (V1 m ρ) c 4 t) (iblk0 (V1 m ρ) c 5 t) (iblk0 (V1 m ρ) c 6 t) (iblk0 (V1 m ρ) c 7 t) where
  image r k := (image_block _ c t r k).trans (Entry.image_read (W0 m ρ c) (image t) r k)
  weight k o := (weight_block _ c t k o).trans (Entry.weight_read (W0 m ρ c) k o)
  bias o := (bias_block _ c t o).trans (Entry.bias_read (W0 m ρ c) o)
  gain o := (gain_block _ c t o).trans (Entry.gain_read (W0 m ρ c) o)
  offset o := (offset_block _ c t o).trans (Entry.offset_read (W0 m ρ c) o)
  mix o := (mix_block _ c t o).trans (Entry.mix_read (W0 m ρ c) o)
  level := (level_block _ c t).trans (Entry.level_read (W0 m ρ c))
  focal := (calibration_block _ c t 0).trans (Entry.focal_read (W0 m ρ c) (image t))
  centre := (calibration_block _ c t 1).trans (Entry.centre_read (W0 m ρ c) (image t))

variable (fx : ∀ i : S8x1024x24x80.Idx, Combine.Finite ((m ((c : Thread nD τ).loc main_arg0) : FVec Ideal S8x1024x24x80 .f32) i))
  (fw : ∀ i : S256x1024x3x3.Idx, Combine.Finite ((m ((c : Thread nD τ).loc main_arg2) : FVec Ideal S256x1024x3x3 .f32) i))
  (fb : ∀ i : S256.Idx, Combine.Finite ((m ((c : Thread nD τ).loc main_arg3) : FVec Ideal S256 .f32) i))
  (fg : ∀ i : S256.Idx, Combine.Finite ((m ((c : Thread nD τ).loc main_arg4) : FVec Ideal S256 .f32) i))

/-- The combined map, of the arguments in the memory. -/
abbrev combined : FVec Ideal S8x24x80 .f32 :=
  Cert.Spec.combined (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The tokens, of the arguments in the memory. -/
abbrev tokens : FVec Ideal S8x120x1024 .f32 := Cert.Spec.tokens (m ((c : Thread nD τ).loc main_arg0))

include fx fw fb fg in
/-- The first output of the pass is the combined map. -/
theorem map_final : (dat0 (V1 m ρ) c).arrAt 8 cfg0.N = combined m c := by
  refine (dat0 (V1 m ρ) c).arrAt_eq_of_covers 8 _ (by decide +kernel) fun t _ y => ?_
  blk_simp
  rw [after0_8]
  rw [show y = ix3 0 (y 1) (y 2) by blk_ext []]
  refine (Combine.combined_eq (blocks m ρ c t) fx fw fb fg (y 1) (y 2)).trans (congrArg (combined m c) ?_)
  blk_ext [image, places t]

include fx in
/-- The second output of the pass holds the tokens. -/
theorem tokens_final : (dat0 (V1 m ρ) c).arrAt 9 cfg0.N = tokens m c := by
  refine (dat0 (V1 m ρ) c).arrAt_eq_of_covers 9 _ (by decide +kernel) fun t _ y => ?_
  blk_simp
  rw [after0_9]
  rw [show y = ix3 0 (y 1) (y 2) by blk_ext []]
  refine (Combine.tokens_eq (blocks m ρ c t) fx (y 1) (y 2)).trans (congrArg (tokens m c) ?_)
  blk_ext [image, places t]

end Cert.KernelIdeal.First

end
-- ==== Proof.Second.lean ====
/-
  The second pass over the whole grid: from the scores and the tokens as it finds them, it leaves the best tokens of every
  image, in the order of the scores.
-/
module

public import proofs.«01_k».proof.Proof.Sel
public import proofs.«01_k».proof.Proof.Index
public import proofs.«01_k».proof.Proof.Gen.KernelIdeal.Frame
public import Idealize.ShloMosaic.Lib.Pipeline.ValueKit

@[expose] public section

set_option maxRecDepth 16384

noncomputable section

namespace Cert.KernelIdeal.Second

open Cert.KernelIdeal Cert.KernelIdeal.Gen Idealize.ShloMosaic Idealize.ShloMosaic.TcCoe
open Idealize.ShloMosaic.Pipeline (Dat)

/-- The image point `t` works on. -/
def image (t : Fin cfg1.N) : Fin 8 := ⟨t.val, t.isLt.trans_eq (by decide +kernel)⟩

/-- Every window holds the image's block. -/
theorem places : ∀ t : Fin cfg1.N, win1_0.index t = ![t.val, 0, 0] ∧ win1_1.index t = ![t.val, 0, 0] ∧ win1_2.index t = ![t.val, 0, 0] :=
  (by decide +kernel : ∀ t : Fin grid1.N, _)

/-- What a point leaves: the tokens in the order of the scores. -/
theorem out_apply (ts : Vec Ideal S1x1x120 .f32) (tok : Vec Ideal S1x120x1024 .f32) (k : Fin 100) (l : Fin 1024) :
    out1_2 ts tok (ix3 0 k l) = tok (ix3 0 (sortedFrom (Cert.KSel.byKey fun j : Fin 120 => ts (ix3 0 0 j)) ⟨k.val, by omega⟩) l) := by
  have e0 : View.ld ts r1_0 = ts := View.ld_unit_zero (by decide) _ _
  have e1 : View.ld tok r1_1 = tok := View.ld_unit_zero (by decide) _ _
  unfold out1_2
  rw [e0, e1]
  exact (congrFun (View.canon_unit_zero (by decide) _ _) (ix3 0 k l)).trans (Cert.KSel.pay_eq ts tok k l)

variable (U : (c : Dev nD) → (b : Ref sig .tc) → Buf (Elt Ideal) ((c : Thread nD τ).loc b)) (c : Dev nD)

/-- Point `t` reads the scores of its own image. -/
theorem scores_block (t : Fin cfg1.N) (j : Fin 120) :
    iblk1 U c 0 t (ix3 0 0 j) = (U c main_call0_v104 : FVec Ideal S8x1x120 .f32) (ix3 (image t) 0 j) := by
  blk_ext [iblk1, image, places t]

/-- Point `t` reads the tokens of its own image. -/
theorem tokens_block (t : Fin cfg1.N) (j : Fin 120) (l : Fin 1024) :
    iblk1 U c 1 t (ix3 0 j l) = (U c main_v0_2 : FVec Ideal S8x120x1024 .f32) (ix3 (image t) j l) := by
  blk_ext [iblk1, image, places t]

/-- The output of the pass. -/
theorem final (s : FVec Ideal S8x120 .f32) (hs : ∀ (b : Fin 8) (j : Fin 120),
      (U c main_call0_v104 : FVec Ideal S8x1x120 .f32) (ix3 b 0 j) = s (ix2 b j)) :
    (dat1 U c).arrAt 2 cfg1.N = Cert.Spec.centers (U c main_v0_2 : FVec Ideal S8x120x1024 .f32) s := by
  refine (dat1 U c).arrAt_eq_of_covers 2 _ (by decide +kernel) fun t _ y => ?_
  blk_simp
  rw [after1_2]
  rw [show y = ix3 0 (y 1) (y 2) by blk_ext []]
  refine (out_apply _ _ (y 1) (y 2)).trans ?_
  rw [show (fun j : Fin 120 => iblk1 U c 0 t (ix3 0 0 j)) = fun j : Fin 120 => s (ix2 (image t) j) from
    funext fun j => (scores_block U c t j).trans (hs (image t) j)]
  refine (tokens_block U c t _ (y 2)).trans ?_
  refine (Cert.Spec.centers_apply _ s (image t) (y 1) (y 2)).symm.trans (congrArg (Cert.Spec.centers _ s) ?_)
  blk_ext [image, places t]

end Cert.KernelIdeal.Second

end
-- ==== Proof.Host.lean ====
/-
  What the kernel's host lines leave in the buffers its two passes read and the program returns, in the reference's terms.
-/
module

public import proofs.«01_k».proof.Proof.Gen.KernelIdeal.Frame
public import proofs.«01_k».proof.Proof.Spec
public import proofs.«01_k».proof.Proof.Sel
public import Idealize.ShloMosaic.Lib.StableHlo.RunRead
public import Idealize.ShloMosaic.Lib.Pointwise

@[expose] public section

set_option maxRecDepth 16384

noncomputable section

namespace Cert.KernelIdeal.Host

open Cert.KernelIdeal Cert.KernelIdeal.Gen Idealize.ShloMosaic Idealize.ShloMosaic.TcCoe

variable (V : Valuation τ sig (Elt Ideal))

set_option maxHeartbeats 4000000 in
/-- The stacked windows of the features. -/
theorem windows_read : StableHlo.upto hostOps1 V 15 (no_index (Proc.devRef .tc main_call0_v32)) = Cert.Spec.windows (V (Proc.devRef .tc main_arg0)) := by
  after_reads_simp
  dsimp only [Matrix.cons_val]
  have e : ∀ u0 u1 u2 u3 u4 u5 u6 u7 u8 v0 v1 v2 v3 v4 v5 v6 v7 v8, u0 = v0 → u1 = v1 → u2 = v2 → u3 = v3 → u4 = v4 → u5 = v5 →
    u6 = v6 → u7 = v7 → u8 = v8 → Cert.Spec.stack u0 u1 u2 u3 u4 u5 u6 u7 u8 = Cert.Spec.stack v0 v1 v2 v3 v4 v5 v6 v7 v8 := by
    intros; subst_vars; rfl
  refine e _ _ _ _ _ _ _ _ _ _ _ _ _ _ _ _ _ _ ?_ ?_ ?_ ?_ ?_ ?_ ?_ ?_ ?_
  all_goals
    after_reads_simp
    rfl

/-- The variance of a group, as the kernel's host line divides: by the count less zero, where that is positive. -/
def divided (h : FVec Ideal S8x32x8x24x80 .f32) : FVec Ideal S8x32x1x1x1 .f32 :=
  select (broadcastInDim S8x32x1x1x1 ![] bcast_S_S8x32x1x1x1 (cmpf .ogt
    (subf (constant S_ .f32 0x46700000#32) (sitofp (F := Ideal) .f32 (constantI S_ 32 0#32))) (constant S_ .f32 0x00000000#32)))
    (Host.divf (broadcastInDim S8x32x1x1x1 ![0, 1] bcast_S8x32_S8x32x1x1x1_0_1
      (Host.reduceAdd (mulf (Cert.Spec.centred h) (Cert.Spec.centred h)) (constant S_ .f32 0x00000000#32)
        reducesTo_S8x32x8x24x80_S8x32_d2_3_4 h_S_))
      (broadcastInDim S8x32x1x1x1 ![] bcast_S_S8x32x1x1x1
        (subf (constant S_ .f32 0x46700000#32) (sitofp (F := Ideal) .f32 (constantI S_ 32 0#32)))))
    (broadcastInDim S8x32x1x1x1 ![] bcast_S_S8x32x1x1x1 (constant S_ .f32 0x7FC00000#32))

/-- The rows' numbers. -/
def rowNumbers : FVec Ideal S8x24x80 .f32 :=
  broadcastInDim S8x24x80 ![0, 1, 2] bcast_S1x24x1_S8x24x80_0_1_2
    (shapeCast S1x24x1 (sitofp (F := Ideal) .f32 (iotaInDim S24 32 0)) shapeCasts_S24_S1x24x1)

/-- A calibration value, taken out and put back in its axes. -/
def again (v : FVec Ideal S8x1x1 .f32) : FVec Ideal S8x1x1 .f32 :=
  shapeCast S8x1x1 (shapeCast S8 v shapeCasts_S8x1x1_S8) shapeCasts_S8_S8x1x1

/-- The convolution, of the arguments in the buffers. -/
abbrev hidAt : FVec Ideal S8x32x8x24x80 .f32 :=
  Cert.Spec.hid (Cert.Spec.windows (V (Proc.devRef .tc main_arg0))) (V (Proc.devRef .tc main_arg2)) (V (Proc.devRef .tc main_arg3))

/-- The normalised convolution, of the arguments in the buffers. -/
abbrev normedAt : FVec Ideal S8x256x24x80 .f32 :=
  Cert.Spec.normed (hidAt V) (divided (hidAt V)) (V (Proc.devRef .tc main_arg4)) (V (Proc.devRef .tc main_arg5))

/-- The heat map, of the arguments in the buffers. -/
abbrev heatAt : FVec Ideal S8x24x80 .f32 :=
  Cert.Spec.heat (normedAt V) (V (Proc.devRef .tc main_arg6)) (V (Proc.devRef .tc main_arg7))

/-- The depth penalty, of the arguments in the buffers. -/
abbrev depthAt : FVec Ideal S8x24x80 .f32 :=
  Cert.Spec.depthOf rowNumbers (again (Cert.Spec.focal (V (Proc.devRef .tc main_arg1))))
    (again (Cert.Spec.centre (V (Proc.devRef .tc main_arg1))))

set_option maxHeartbeats 4000000 in
/-- The buffer of the convolution holds `hidAt` at each of the four steps at which it is read. -/
theorem hid_read (k : Fin 4) :
    StableHlo.upto hostOps1 V (![22, 29, 35, 52] k) (no_index (Proc.devRef .tc main_call0_v39)) = hidAt V := by
  fin_cases k <;>
    (dsimp only [Matrix.cons_val]; after_reads_simp [windows_read V]; rfl)

set_option maxHeartbeats 4000000 in
/-- After 55 steps the variance's buffer holds `divided` of the convolution. -/
theorem divided_read : StableHlo.upto hostOps1 V 55 (no_index (Proc.devRef .tc main_call0_v44)) = divided (hidAt V) := by
  have h1 : StableHlo.upto hostOps1 V 29 (no_index (Proc.devRef .tc main_call0_v39)) = hidAt V := hid_read V 1
  have h2 : StableHlo.upto hostOps1 V 35 (no_index (Proc.devRef .tc main_call0_v39)) = hidAt V := hid_read V 2
  after_reads_simp [h1, h2]
  rfl

set_option maxHeartbeats 4000000 in
/-- After 68 steps the normalised values' buffer holds `normedAt`. -/
theorem normed_read : StableHlo.upto hostOps1 V 68 (no_index (Proc.devRef .tc main_call0_v58)) = normedAt V := by
  have h0 : StableHlo.upto hostOps1 V 22 (no_index (Proc.devRef .tc main_call0_v39)) = hidAt V := hid_read V 0
  have h3 : StableHlo.upto hostOps1 V 52 (no_index (Proc.devRef .tc main_call0_v39)) = hidAt V := hid_read V 3
  after_reads_simp [h0, h3, divided_read V]
  rfl

set_option maxHeartbeats 4000000 in
/-- After 115 steps the heat map's buffer holds `heatAt`. -/
theorem heat_read : StableHlo.upto hostOps1 V 115 (no_index (Proc.devRef .tc main_call0_v72)) = heatAt V := by
  after_reads_simp [normed_read V]
  rfl

set_option maxHeartbeats 4000000 in
/-- After 116 steps the depth penalty's buffer holds `depthAt`. -/
theorem depth_read : StableHlo.upto hostOps1 V 116 (no_index (Proc.devRef .tc main_call0_v95)) = depthAt V := by
  after_reads_simp
  rfl

set_option maxHeartbeats 4000000 in
/-- The scores the second pass reads. -/
theorem scores_read : StableHlo.after hostOps1 V (Proc.devRef .tc main_call0_v104)
    = shapeCast S8x1x120 (Cert.Spec.scores (addf (depthAt V)
        (mulf (broadcastInDim S8x24x80 ![] bcast_S_S8x24x80 (constant S_ .f32 0x3F800000#32)) (heatAt V))))
        shapeCasts_S8x120_S8x1x120 := by
  after_reads_simp [heat_read V, depth_read V]
  rfl

/-- The count of a group's values. -/
theorem count_eq : Ideal.ofBits .f32 0x46700000#32 = ((15360 : ℝ) : EReal) := by
  simp [Ideal.ofBits, Ideal.ieee, -EReal.coe_mul]
  norm_num

/-- The kernel's host variance is the reference's. -/
theorem divided_eq (h : FVec Ideal S8x32x8x24x80 .f32) : divided h = Cert.Spec.variance h := by
  funext j
  idx_vars j
  pointwise [divided, Cert.Spec.variance, Cert.Spec.mean]
  rw [show (FloatOps.sitofp (F := Ideal) .f32 0#32 : EReal) = 0 by
    rw [show (0#32) = BitVec.ofNat 32 0 from rfl, Cert.KSel.sitofp_nat 0 (by norm_num)]; simp, sub_zero, count_eq,
    if_pos (by exact_mod_cast (by norm_num : (0 : ℝ) < 15360))]

/-- The kernel's row numbers are the reference's. -/
theorem rowNumbers_eq : rowNumbers = sitofp (F := Ideal) .f32 (iotaInDim S8x24x80 32 1) := by
  funext j
  idx_vars j
  pointwise [rowNumbers]

/-- Taking a calibration value out and putting it back changes nothing. -/
theorem again_eq (v : FVec Ideal S8x1x1 .f32) : again v = v := by
  funext j
  idx_vars j
  pointwise [again]

/-- A map multiplied by the literal 1 is itself. -/
theorem one_mul' (v : FVec Ideal S8x24x80 .f32) :
    mulf (broadcastInDim S8x24x80 ![] bcast_S_S8x24x80 (constant S_ .f32 0x3F800000#32)) v = v := by
  funext j
  idx_vars j
  pointwise []

end Cert.KernelIdeal.Host
end
-- ==== Proof.Positions.lean ====
/-
  The fourth result: the pixel in the middle of each token's tile. The kernel's rows and columns are the reference's.
-/
module

public import proofs.«01_k».proof.Proof.Gen.KernelIdeal.Frame
public import proofs.«01_k».proof.Proof.Spec
public import Idealize.ShloMosaic.Lib.StableHlo.RunRead
public import Idealize.ShloMosaic.Lib.Pointwise

@[expose] public section

set_option maxRecDepth 16384

noncomputable section

namespace Cert.KernelIdeal.Positions

open Cert.KernelIdeal Cert.KernelIdeal.Gen Idealize.ShloMosaic Idealize.ShloMosaic.TcCoe

/-- Two integer columns side by side. -/
def pair (u v : IVec S6x20x1 32) : IVec S6x20x2 32 :=
  concatenate S6x20x2 2 [⟨S6x20x1, u⟩, ⟨S6x20x1, v⟩] concatenates_S6x20x1_S6x20x1_S6x20x2_d2

/-- The tiles' middle rows. -/
def rows : IVec S6x20x1 32 :=
  broadcastInDim S6x20x1 ![0, 1] bcast_S6x20_S6x20x1_0_1 (broadcastInDim S6x20 ![0] bcast_S6_S6x20_0
    (addi (muli (iotaInDim S6 32 0) (broadcastInDim S6 ![] bcast_S_S6 (constantI S_ 32 4#32)))
      (broadcastInDim S6 ![] bcast_S_S6 (constantI S_ 32 2#32))))

/-- The tiles' middle columns. -/
def columns : IVec S6x20x1 32 :=
  broadcastInDim S6x20x1 ![0, 1] bcast_S6x20_S6x20x1_0_1 (broadcastInDim S6x20 ![1] bcast_S20_S6x20_1
    (addi (muli (iotaInDim S20 32 0) (broadcastInDim S20 ![] bcast_S_S20 (constantI S_ 32 4#32)))
      (broadcastInDim S20 ![] bcast_S_S20 (constantI S_ 32 2#32))))

/-- The kernel's positions. -/
def all : IVec S8x120x2 32 :=
  broadcastInDim S8x120x2 ![0, 1, 2] bcast_S1x120x2_S8x120x2_0_1_2 (broadcastInDim S1x120x2 ![1, 2] bcast_S120x2_S1x120x2_1_2
    (shapeCast S120x2 (pair rows columns) shapeCasts_S6x20x2_S120x2))

variable (V : Valuation τ sig (Elt Ideal))

/-- The host lines after the two passes leave the positions in the fourth result. -/
theorem read : (StableHlo.after hostOps2 V (Proc.devRef .tc main_v0_3) : IVec S8x120x2 32) = all := by
  after_reads_simp
  simp only [StableHlo.TRef.toBuf, StableHlo.TRef.ofBuf, cast_eq]
  have e : ∀ u v, u = rows → v = columns → broadcastInDim S8x120x2 ![0, 1, 2] bcast_S1x120x2_S8x120x2_0_1_2
      (broadcastInDim S1x120x2 ![1, 2] bcast_S120x2_S1x120x2_1_2 (shapeCast S120x2 (pair u v) shapeCasts_S6x20x2_S120x2)) = all := by
    rintro _ _ rfl rfl
    rfl
  refine e _ _ ?_ ?_
  · after_reads_simp
    rfl
  · after_reads_simp
    rfl

/-- The kernel's positions are the reference's. -/
theorem all_eq : all = Cert.Spec.positions := by
  funext i
  obtain ⟨n, t, c, rfl⟩ : ∃ n t c, i = (ix3 n t c : S8x120x2.Idx) := ⟨_, _, _, eq_ix3 i⟩
  fin_cases c
  · pointwise [all, pair, rows, columns, Cert.Spec.positions]
    exact congrArg (IntOp.addi · _) (BitVec.mul_comm _ _)
  · pointwise [all, pair, rows, columns, Cert.Spec.positions]
    exact congrArg (IntOp.addi · _) (BitVec.mul_comm _ _)

end Cert.KernelIdeal.Positions

end
-- ==== Proof.Results.lean ====
/-
  The kernel's four results at the end of its program, in terms of the arguments: the combined map, the best tokens, the
  tokens and the positions.
-/
module

public import proofs.«01_k».proof.Proof.First
public import proofs.«01_k».proof.Proof.Second
public import proofs.«01_k».proof.Proof.Host
public import proofs.«01_k».proof.Proof.Positions

@[expose] public section

set_option maxRecDepth 16384

noncomputable section

namespace Cert.KernelIdeal.Results

open Cert.KernelIdeal Cert.KernelIdeal.Gen Idealize.ShloMosaic Idealize.ShloMosaic.TcCoe Cert.KernelIdeal.First

variable (m : (ℓ : Loc nD τ sig) → Buf (Elt Ideal) ℓ) (ρ : Dev nD → PrngReg) (c : Dev nD)

/-- The scores the host computes between the passes, of buffers `V` holding arguments. -/
theorem scores_apply (V : Valuation τ sig (Elt Ideal)) (b : Fin 8) (j : Fin 120) :
    (StableHlo.after hostOps1 V (Proc.devRef .tc main_call0_v104) : FVec Ideal S8x1x120 .f32) (ix3 b 0 j)
      = Cert.Spec.scores (Cert.Spec.combined (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7))) (ix2 b j) := by
  have e : addf (Host.depthAt V) (mulf (broadcastInDim S8x24x80 ![] bcast_S_S8x24x80 (constant S_ .f32 0x3F800000#32)) (Host.heatAt V))
      = Cert.Spec.combined (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) := by
    rw [Host.one_mul']
    unfold Host.depthAt Host.heatAt Host.normedAt
    rw [Host.again_eq, Host.again_eq, Host.rowNumbers_eq, Host.divided_eq]
    rfl
  rw [Host.scores_read, e]
  generalize Cert.Spec.scores _ = s
  pointwise []

/-- An argument's buffer after the first pass. -/
theorem argument (a : Ref sig .tc) (h : a ∈ argRefs) : W2 m ρ c (Proc.devRef .tc a) = m ((c : Thread nD τ).loc a) := W2_args m ρ c a h

/-- The scores the second pass finds. -/
theorem scores_found (b : Fin 8) (j : Fin 120) :
    (V3 m ρ c main_call0_v104 : FVec Ideal S8x1x120 .f32) (ix3 b 0 j) = Cert.Spec.scores (combined m c) (ix2 b j) := by
  refine (scores_apply (W2 m ρ c) b j).trans ?_
  rw [argument m ρ c main_arg0 (by decide), argument m ρ c main_arg1 (by decide), argument m ρ c main_arg2 (by decide),
    argument m ρ c main_arg3 (by decide), argument m ρ c main_arg4 (by decide), argument m ρ c main_arg5 (by decide),
    argument m ρ c main_arg6 (by decide), argument m ρ c main_arg7 (by decide)]

variable (fx : ∀ i : S8x1024x24x80.Idx, Combine.Finite ((m ((c : Thread nD τ).loc main_arg0) : FVec Ideal S8x1024x24x80 .f32) i))
  (fw : ∀ i : S256x1024x3x3.Idx, Combine.Finite ((m ((c : Thread nD τ).loc main_arg2) : FVec Ideal S256x1024x3x3 .f32) i))
  (fb : ∀ i : S256.Idx, Combine.Finite ((m ((c : Thread nD τ).loc main_arg3) : FVec Ideal S256 .f32) i))
  (fg : ∀ i : S256.Idx, Combine.Finite ((m ((c : Thread nD τ).loc main_arg4) : FVec Ideal S256 .f32) i))

include fx in
/-- The tokens the second pass finds. -/
theorem tokens_found : (V3 m ρ c main_v0_2 : FVec Ideal S8x120x1024 .f32) = tokens m c :=
  (W3_of m ρ c main_v0_2 (by decide)).trans ((W2_arr m ρ c 9).trans (tokens_final m ρ c fx))

include fx fw fb fg in
/-- The first result is the combined map. -/
theorem combined_result : (W5 m ρ c (Proc.devRef .tc main_v0_0) : FVec Ideal S8x24x80 .f32) = combined m c :=
  (W5_of m ρ c main_v0_0 (by decide)).trans ((W4_of m ρ c main_v0_0 (by decide)).trans
    ((W3_of m ρ c main_v0_0 (by decide)).trans ((W2_arr m ρ c 8).trans (map_final m ρ c fx fw fb fg))))

include fx in
/-- The second result holds the best tokens by score. -/
theorem centers_result : (W5 m ρ c (Proc.devRef .tc main_v0_1) : FVec Ideal S8x100x1024 .f32)
    = Cert.Spec.centers (tokens m c) (Cert.Spec.scores (combined m c)) := by
  refine (W5_of m ρ c main_v0_1 (by decide)).trans ((W4_arr m ρ c 2).trans ?_)
  refine (Second.final (V3 m ρ) c (Cert.Spec.scores (combined m c)) (scores_found m ρ c)).trans ?_
  exact congrArg (fun t => Cert.Spec.centers t (Cert.Spec.scores (combined m c))) (tokens_found m ρ c fx)

include fx in
/-- The third result holds the tokens. -/
theorem tokens_result : (W5 m ρ c (Proc.devRef .tc main_v0_2) : FVec Ideal S8x120x1024 .f32) = tokens m c :=
  (W5_of m ρ c main_v0_2 (by decide)).trans ((W4_of m ρ c main_v0_2 (by decide)).trans (tokens_found m ρ c fx))

/-- The fourth result holds the tokens' positions. -/
theorem positions_result : (W5 m ρ c (Proc.devRef .tc main_v0_3) : IVec S8x120x2 32) = Cert.Spec.positions :=
  (Positions.read (W4 m ρ c)).trans Positions.all_eq

end Cert.KernelIdeal.Results

end
-- ==== Proof.Run.lean ====
/-
  The kernel's run over the extended reals: every execution ends, with each result's buffer at the value the launch
  leaves in it and the arguments unchanged.
-/
module

public import proofs.«01_k».proof.Proof.Gen.KernelIdeal.Frame
public import Idealize.ShloMosaic.PureOps.Ideal

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the run is reasoned over. -/
abbrev Resources := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer outside the passes' scratch ends at its value after the last host operation. -/
theorem buffers : θ_run defs (onTc (τ := τ) (main (F := Ideal))) ⟨m, fun _ => 0, ρ⟩ (fun r => ∀ c : Dev nD,
    ∀ b ∈ Pipeline.ucRefs τ sig, r.2.mem ((c : Dev nD), b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Resources)
            ⊢ BI.own (emb₁ (initOf (Pipeline.cells cfgs cellOf_inj) (Pipeline.launchToks cfgs cellOf_inj))) from .rfl)
        iexact Hu
      iapply (show (BI.emp : sProp Resources) ⊢ bigSep Finset.univ (fun _ : Dev nD => (BI.emp : sProp Resources)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c b hb)

/-- The results end at their values after the last host operation, and the arguments as they were. -/
theorem results : θ_run defs (onTc (τ := τ) (main (F := Ideal))) ⟨m, fun _ => 0, ρ⟩ (fun r => ∀ c : Dev nD,
      (r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_v0_3) = W5 m ρ c (Proc.devRef .tc main_v0_3))
      ∧ ∀ a ∈ argRefs, r.2.mem ((c.tc : Thread nD τ).loc a) = m ((c.tc : Thread nD τ).loc a)) :=
  (θ_run defs _ _).mono (fun _ h c =>
    ⟨⟨h c _ (mem_uc main_v0_0 (by decide)), h c _ (mem_uc main_v0_1 (by decide)), h c _ (mem_uc main_v0_2 (by decide)),
      h c _ (mem_uc main_v0_3 (by decide))⟩,
      fun a ha => (h c _ (mem_uc a ((by decide : ∀ a ∈ argRefs, ¬ (Proc.devRef .tc a : DevRef τ sig).isScoped) a ha))).trans (W5_args m ρ c a ha)⟩) (buffers m ρ)

end Cert.KernelIdeal.Run

end
-- ==== Proof.Equal.lean ====
/-
  Kernel and reference compute equal results over the extended reals, from equal finite arguments.
-/
module

public import proofs.«01_k».proof.Defs
public import proofs.«01_k».proof.Proof.Finite
public import proofs.«01_k».proof.Proof.Results
public import proofs.«01_k».proof.Proof.Run

@[expose] public section

set_option maxRecDepth 16384

namespace Cert.Equal

open Idealize.ShloMosaic Idealize.SL.Sem

/-- The kernel leaves the reference's results: the combined map, the best tokens, the tokens and the positions. -/
theorem kernel (m : (ℓ : Loc Cert.KernelIdeal.nD Cert.KernelIdeal.τ Cert.KernelIdeal.sig) → Buf (Elt Ideal) ℓ)
    (ρ : Dev Cert.KernelIdeal.nD → PrngReg) (h : Cert.Pre_KernelIdeal_finite (hPre_finite := Cert.Pre_finite.facts) m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        (r.2.mem ((c.tc : Thread Cert.KernelIdeal.nD Cert.KernelIdeal.τ).loc Cert.KernelIdeal.main_v0_0) = Cert.KernelIdeal.First.combined m c
        ∧ r.2.mem ((c.tc : Thread Cert.KernelIdeal.nD Cert.KernelIdeal.τ).loc Cert.KernelIdeal.main_v0_1)
          = Cert.Spec.centers (Cert.KernelIdeal.First.tokens m c) (Cert.Spec.scores (Cert.KernelIdeal.First.combined m c))
        ∧ r.2.mem ((c.tc : Thread Cert.KernelIdeal.nD Cert.KernelIdeal.τ).loc Cert.KernelIdeal.main_v0_2) = Cert.KernelIdeal.First.tokens m c
        ∧ r.2.mem ((c.tc : Thread Cert.KernelIdeal.nD Cert.KernelIdeal.τ).loc Cert.KernelIdeal.main_v0_3) = Cert.Spec.positions)
        ∧ ∀ a ∈ Cert.KernelIdeal.Gen.argRefs, r.2.mem ((c.tc : Thread Cert.KernelIdeal.nD Cert.KernelIdeal.τ).loc a)
          = m ((c.tc : Thread Cert.KernelIdeal.nD Cert.KernelIdeal.τ).loc a)) := by
  refine (θ_run _ _ _).mono (fun r hr c => ?_) (Cert.KernelIdeal.Run.results m ρ)
  obtain ⟨⟨h0, h1, h2, h3⟩, ha⟩ := hr c
  obtain ⟨fx, fw, fb, fg⟩ := Cert.Pre_finite.finite _ _ _ _ _ _ _ _ (h c)
  exact ⟨⟨h0.trans (Cert.KernelIdeal.Results.combined_result m ρ c fx fw fb fg),
    h1.trans (Cert.KernelIdeal.Results.centers_result m ρ c fx),
    h2.trans (Cert.KernelIdeal.Results.tokens_result m ρ c fx),
    h3.trans (Cert.KernelIdeal.Results.positions_result m ρ c)⟩, ha⟩

/-- From equal finite arguments the two programs end with equal results and unchanged arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hagree
  refine ⟨fun c => Cert.KernelIdeal.First.combined m c,
    fun c => Cert.Spec.centers (Cert.KernelIdeal.First.tokens m c) (Cert.Spec.scores (Cert.KernelIdeal.First.combined m c)),
    fun c => Cert.KernelIdeal.First.tokens m c, fun _ => Cert.Spec.positions, ?_, ?_⟩
  · refine (θ_run _ _ _).mono (fun r hr c => ?_) (kernel m g hp)
    obtain ⟨⟨h0, h1, h2, h3⟩, ha⟩ := hr c
    exact ⟨h0, h1, h2, h3, ha _ (by decide), ha _ (by decide), ha _ (by decide), ha _ (by decide), ha _ (by decide),
      ha _ (by decide), ha _ (by decide), ha _ (by decide)⟩
  · refine (θ_run _ _ _).mono (fun r hr c => ?_) (Cert.ReferenceIdeal.Value.run (F := Ideal) m' g')
    obtain ⟨h0, h1, h2, h3, ha⟩ := hr c
    obtain ⟨a0, a1, a2, a3, a4, a5, a6, a7⟩ := hagree c
    have e : Cert.Spec.combinedAt m' c = Cert.KernelIdeal.First.combined m c := by
      unfold Cert.Spec.combinedAt Cert.KernelIdeal.First.combined
      rw [a0, a1, a2, a3, a4, a5, a6, a7]
    have t : Cert.Spec.tokens (m' ((c.tc : Thread Cert.ReferenceIdeal.nD Cert.ReferenceIdeal.τ).loc Cert.ReferenceIdeal.main_arg0))
        = Cert.KernelIdeal.First.tokens m c := congrArg Cert.Spec.tokens a0
    refine ⟨h0.trans ((Cert.Spec.combined_eq m' c).trans e), h1.trans ((Cert.Spec.centers_eq m' c).trans ?_), h2.trans t, h3, ha⟩
    rw [e, t]

end Cert.Equal

end
-- ==== Proof.lean ====
/-
  The certificate: the frames of the three programs, the idealization of the kernel, and the equality of the kernel's
  results with the reference's.
-/
module

public import proofs.«01_k».proof.Defs
public import proofs.«01_k».proof.Proof.Frames
public import proofs.«01_k».proof.Proof.Equal
public import Idealize.ShloMosaic.Adequacy
public import Idealize.ShloMosaic.Init

@[expose] public section

namespace Cert.Proof

/-- Every claim of `Defs.lean`. -/
theorem claim : Cert.Claim :=
  ⟨Cert.Kernel.Gen.facts, Cert.KernelIdeal.Gen.facts, Cert.ReferenceIdeal.Gen.facts, Cert.Pre_finite.facts,
    Cert.Frames.kernel, Cert.Frames.kernelIdeal, Cert.Frames.kernelIdeal_finite _, Cert.Frames.referenceIdeal,
    Cert.Frames.referenceIdeal_finite _, trivial, Cert.Equal.algebraic⟩

end Cert.Proof

end
